-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_step [hPre_finite_step : Cert.Pre_finite_step.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_step.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_step [hPre_finite_step : Cert.Pre_finite_step.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_step.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_step [hKernel4Ideal : Cert.Kernel4Ideal.Facts] [hPre_finite_step : Cert.Pre_finite_step.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_step m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_step [hReference4Ideal : Cert.Reference4Ideal.Facts] [hPre_finite_step : Cert.Pre_finite_step.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_step m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel2_Kernel2Ideal : Prop :=
  True

def preserves_Kernel3_Kernel3Ideal : Prop :=
  True

def preserves_Kernel4_Kernel4Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v161) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def algebraic_Kernel4Ideal_Reference4Ideal_pre_finite_step [hKernel4Ideal : Cert.Kernel4Ideal.Facts] [hReference4Ideal : Cert.Reference4Ideal.Facts] [hPre_finite_step : Cert.Pre_finite_step.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_step m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v159) = v0 c
          ∧ r.2.mem ((c.tc : Thread Cert.Reference4Ideal.nD Cert.Reference4Ideal.τ).loc Cert.Reference4Ideal.main_v160) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_step : Cert.Pre_finite_step.Facts),
    quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_step (hKernel4Ideal := hKernel4Ideal) (hPre_finite_step := hPre_finite_step)
    ∧ quiescent_Reference4Ideal (hReference4Ideal := hReference4Ideal)
    ∧ quiescent_Reference4Ideal_pre_finite_step (hReference4Ideal := hReference4Ideal) (hPre_finite_step := hPre_finite_step)
    ∧ preserves_Kernel2_Kernel2Ideal
    ∧ preserves_Kernel3_Kernel3Ideal
    ∧ preserves_Kernel4_Kernel4Ideal
    ∧ algebraic_Kernel2Ideal_Reference2Ideal_pre_finite (hKernel2Ideal := hKernel2Ideal) (hReference2Ideal := hReference2Ideal) (hPre_finite := hPre_finite)
    ∧ algebraic_Kernel3Ideal_Reference3Ideal (hKernel3Ideal := hKernel3Ideal) (hReference3Ideal := hReference3Ideal)
    ∧ algebraic_Kernel4Ideal_Reference4Ideal_pre_finite_step (hKernel4Ideal := hKernel4Ideal) (hReference4Ideal := hReference4Ideal) (hPre_finite_step := hPre_finite_step)
-- ==== Pre_finite.lean ====
abbrev S8x2048x1024 : Shape := ⟨3, ![8, 2048, 1024]⟩
abbrev S2x8x6144 : Shape := ⟨3, ![2, 8, 6144]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x5632 : Shape := ⟨3, ![2, 1024, 5632]⟩
abbrev S2x2816x1024 : Shape := ⟨3, ![2, 2816, 1024]⟩
abbrev S1x8x2048 : Shape := ⟨3, ![1, 8, 2048]⟩
abbrev S8x2048 : Shape := ⟨2, ![8, 2048]⟩
abbrev S_ : Shape := ⟨0, ![]⟩

class Facts : Prop where
  slices_S2x8x6144_S1x8x2048_1_0_0 : S2x8x6144.Slices ![1, 0, 0] S1x8x2048
  shapeCasts_S1x8x2048_S8x2048 : S1x8x2048.ShapeCasts S8x2048
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x1024 .f32) (main_arg1 : FVec F S2x8x6144 .f32) (main_arg2 : FVec F S2x2x1024 .f32) (main_arg3 : FVec F S2x2x1024 .f32) (main_arg4 : FVec F S1x4x256x256 .f32) (main_arg5 : FVec F S1x1024 .f32) (main_arg6 : FVec F S2x1024x5632 .f32) (main_arg7 : FVec F S2x2816x1024 .f32) : IVec S_ 1 :=
  let main_v0 : FVec F S1x8x2048 .f32 := (extractStridedSlice S1x8x2048 ![1, 0, 0] · slices_S2x8x6144_S1x8x2048_1_0_0) main_arg1
  let main_v1 : FVec F S8x2048 .f32 := shapeCast S8x2048 main_v0 shapeCasts_S1x8x2048_S8x2048
  let main_v2 : FVec F S8x2048x1024 .f32 := subf main_arg0 main_arg0
  let main_cst : FVec F S_ .f32 := constant S_ .f32 0x00000000#32
  let main_v3 : FVec F S8x2048x1024 .f32 := broadcastInDim S8x2048x1024 ![] bcast_S_S8x2048x1024 main_cst
  let main_v4 : IVec S8x2048x1024 1 := cmpf .oeq main_v2 main_v3
  let main_c : IVec S_ 1 := constantI S_ 1 1#1
  let main_v5 : IVec S_ 1 := (fun x v => Host.reduce IntOp.andi x v reducesTo_S8x2048x1024_S_d0_1_2 h_S_) main_v4 main_c
  let main_v6 : FVec F S8x2048 .f32 := subf main_v1 main_v1
  let main_cst_0 : FVec F S_ .f32 := constant S_ .f32 0x00000000#32
  let main_v7 : FVec F S8x2048 .f32 := broadcastInDim S8x2048 ![] bcast_S_S8x2048 main_cst_0
  let main_v8 : IVec S8x2048 1 := cmpf .oeq main_v6 main_v7
  let main_c_1 : IVec S_ 1 := constantI S_ 1 1#1
  let main_v9 : IVec S_ 1 := (fun x v => Host.reduce IntOp.andi x v reducesTo_S8x2048_S_d0_1 h_S_) main_v8 main_c_1
  let main_v10 : IVec S_ 1 := andi main_v5 main_v9
  main_v10
-- ==== Pre_finite_step.lean ====
abbrev S1x128x1024 : Shape := ⟨3, ![1, 128, 1024]⟩
abbrev S2x136x6144 : Shape := ⟨3, ![2, 136, 6144]⟩
abbrev S2x2x1024 : Shape := ⟨3, ![2, 2, 1024]⟩
abbrev S1x128x15x1024 : Shape := ⟨4, ![1, 128, 15, 1024]⟩
abbrev S1x4x256x256 : Shape := ⟨4, ![1, 4, 256, 256]⟩
abbrev S1x1024 : Shape := ⟨2, ![1, 1024]⟩
abbrev S2x1024x5632 : Shape := ⟨3, ![2, 1024, 5632]⟩
abbrev S2x2816x1024 : Shape := ⟨3, ![2, 2816, 1024]⟩
abbrev S1x136x2048 : Shape := ⟨3, ![1, 136, 2048]⟩
abbrev S136x2048 : Shape := ⟨2, ![136, 2048]⟩
abbrev S_ : Shape := ⟨0, ![]⟩

class Facts : Prop where
  slices_S2x136x6144_S1x136x2048_1_0_0 : S2x136x6144.Slices ![1, 0, 0] S1x136x2048
  shapeCasts_S1x136x2048_S136x2048 : S1x136x2048.ShapeCasts S136x2048
  bcast_S_S1x128x1024 : S_.BroadcastsInDim S1x128x1024 (![] : Fin 0 → Fin S1x128x1024.rank)
  reducesTo_S1x128x1024_S_d0_1_2 : S1x128x1024.ReducesTo [0, 1, 2] S_
  h_S_ : 0 < S_.numel
  bcast_S_S136x2048 : S_.BroadcastsInDim S136x2048 (![] : Fin 0 → Fin S136x2048.rank)
  reducesTo_S136x2048_S_d0_1 : S136x2048.ReducesTo [0, 1] S_
  bcast_S_S1x128x15x1024 : S_.BroadcastsInDim S1x128x15x1024 (![] : Fin 0 → Fin S1x128x15x1024.rank)
  reducesTo_S1x128x15x1024_S_d0_1_2_3 : S1x128x15x1024.ReducesTo [0, 1, 2, 3] S_

variable [Facts]

def fn {F : FTy → Type} [FloatOps F] (main_arg0 : FVec F S1x128x1024 .f32) (main_arg1 : FVec F S2x136x6144 .f32) (main_arg2 : FVec F S2x2x1024 .f32) (main_arg3 : FVec F S2x2x1024 .f32) (main_arg4 : FVec F S1x128x15x1024 .f32) (main_arg5 : FVec F S1x4x256x256 .f32) (main_arg6 : FVec F S1x1024 .f32) (main_arg7 : FVec F S2x1024x5632 .f32) (main_arg8 : FVec F S2x2816x1024 .f32) : IVec S_ 1 :=
  let main_v0 : FVec F S1x136x2048 .f32 := (extractStridedSlice S1x136x2048 ![1, 0, 0] · slices_S2x136x6144_S1x136x2048_1_0_0) main_arg1
  let main_v1 : FVec F S136x2048 .f32 := shapeCast S136x2048 main_v0 shapeCasts_S1x136x2048_S136x2048
  let main_v2 : FVec F S1x128x1024 .f32 := subf main_arg0 main_arg0
  let main_cst : FVec F S_ .f32 := constant S_ .f32 0x00000000#32
  let main_v3 : FVec F S1x128x1024 .f32 := broadcastInDim S1x128x1024 ![] bcast_S_S1x128x1024 main_cst
  let main_v4 : IVec S1x128x1024 1 := cmpf .oeq main_v2 main_v3
  let main_c : IVec S_ 1 := constantI S_ 1 1#1
  let main_v5 : IVec S_ 1 := (fun x v => Host.reduce IntOp.andi x v reducesTo_S1x128x1024_S_d0_1_2 h_S_) main_v4 main_c
  let main_v6 : FVec F S136x2048 .f32 := subf main_v1 main_v1
  let main_cst_0 : FVec F S_ .f32 := constant S_ .f32 0x00000000#32
  let main_v7 : FVec F S136x2048 .f32 := broadcastInDim S136x2048 ![] bcast_S_S136x2048 main_cst_0
  let main_v8 : IVec S136x2048 1 := cmpf .oeq main_v6 main_v7
  let main_c_1 : IVec S_ 1 := constantI S_ 1 1#1
  let main_v9 : IVec S_ 1 := (fun x v => Host.reduce IntOp.andi x v reducesTo_S136x2048_S_d0_1 h_S_) main_v8 main_c_1
  let main_v10 : IVec S_ 1 := andi main_v5 main_v9
  let main_v11 : FVec F S1x128x15x1024 .f32 := subf main_arg4 main_arg4
  let main_cst_2 : FVec F S_ .f32 := constant S_ .f32 0x00000000#32
  let main_v12 : FVec F S1x128x15x1024 .f32 := broadcastInDim S1x128x15x1024 ![] bcast_S_S1x128x15x1024 main_cst_2
  let main_v13 : IVec S1x128x15x1024 1 := cmpf .oeq main_v11 main_v12
  let main_c_3 : IVec S_ 1 := constantI S_ 1 1#1
  let main_v14 : IVec S_ 1 := (fun x v => Host.reduce IntOp.andi x v reducesTo_S1x128x15x1024_S_d0_1_2_3 h_S_) main_v13 main_c_3
  let main_v15 : IVec S_ 1 := andi main_v10 main_v14
  main_v15
-- ==== Kernel2.lean ====
abbrev S8x2048x1024 : Shape := ⟨3, ![8, 2048, 1024]⟩
abbrev S2x8x6144 : Shape := ⟨3, ![2, 8, 6144]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x5632 : Shape := ⟨3, ![2, 1024, 5632]⟩
abbrev S2x2816x1024 : Shape := ⟨3, ![2, 2816, 1024]⟩
abbrev S4x128x288 : Shape := ⟨3, ![4, 128, 288]⟩
abbrev S2x1x1024 : Shape := ⟨3, ![2, 1, 1024]⟩
abbrev S2x1024 : Shape := ⟨2, ![2, 1024]⟩
abbrev S2x4x1024 : Shape := ⟨3, ![2, 4, 1024]⟩
abbrev S2x8x1x6144 : Shape := ⟨4, ![2, 8, 1, 6144]⟩
abbrev S1x8x1x6144 : Shape := ⟨4, ![1, 8, 1, 6144]⟩
abbrev S8x1x6144 : Shape := ⟨3, ![8, 1, 6144]⟩
abbrev S1x4x1024 : Shape := ⟨3, ![1, 4, 1024]⟩
abbrev S4x1024 : Shape := ⟨2, ![4, 1024]⟩
abbrev S4x256x256 : Shape := ⟨3, ![4, 256, 256]⟩
abbrev S8x16x1024 : Shape := ⟨3, ![8, 16, 1024]⟩
abbrev S1x512x1024 : Shape := ⟨3, ![1, 512, 1024]⟩
abbrev S1x1x6144 : Shape := ⟨3, ![1, 1, 6144]⟩
abbrev S1x1024x5632 : Shape := ⟨3, ![1, 1024, 5632]⟩
abbrev S1x2816x1024 : Shape := ⟨3, ![1, 2816, 1024]⟩
abbrev S1x16x1024 : Shape := ⟨3, ![1, 16, 1024]⟩
abbrev S528x1024 : Shape := ⟨2, ![528, 1024]⟩
abbrev S16x1024 : Shape := ⟨2, ![16, 1024]⟩
abbrev S512x1024 : Shape := ⟨2, ![512, 1024]⟩
abbrev S1x6144 : Shape := ⟨2, ![1, 6144]⟩
abbrev S128x1 : Shape := ⟨2, ![128, 1]⟩
abbrev S128x256 : Shape := ⟨2, ![128, 256]⟩
abbrev S16x256 : Shape := ⟨2, ![16, 256]⟩
abbrev S1x128x288 : Shape := ⟨3, ![1, 128, 288]⟩
abbrev S128x288 : Shape := ⟨2, ![128, 288]⟩
abbrev S288x256 : Shape := ⟨2, ![288, 256]⟩
abbrev S128x1024 : Shape := ⟨2, ![128, 1024]⟩
abbrev S256x1024 : Shape := ⟨2, ![256, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 33
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S2x8x6144, .f32⟩
  | .hbm, ⟨2, _⟩ => ⟨S2x2x1024, .f32⟩
  | .hbm, ⟨3, _⟩ => ⟨S2x2x1024, .f32⟩
  | .hbm, ⟨4, _⟩ => ⟨S1x4x256x256, .f32⟩
  | .hbm, ⟨5, _⟩ => ⟨S1x1024, .f32⟩
  | .hbm, ⟨6, _⟩ => ⟨S2x1024x5632, .f32⟩
  | .hbm, ⟨7, _⟩ => ⟨S2x2816x1024, .f32⟩
  | .hbm, ⟨8, _⟩ => ⟨S4x128x288, .bf16⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x4x1024, .f32⟩
  | .hbm, ⟨22, _⟩ => ⟨S2x8x1x6144, .f32⟩
  | .hbm, ⟨23, _⟩ => ⟨S1x8x1x6144, .f32⟩
  | .hbm, ⟨24, _⟩ => ⟨S8x1x6144, .f32⟩
  | .hbm, ⟨25, _⟩ => ⟨S1x4x1024, .f32⟩
  | .hbm, ⟨26, _⟩ => ⟨S4x1024, .f32⟩
  | .hbm, ⟨27, _⟩ => ⟨S4x256x256, .f32⟩
  | .hbm, ⟨28, _⟩ => ⟨S4x256x256, .bf16⟩
  | .hbm, ⟨29, _⟩ => ⟨S2x1024x5632, .bf16⟩
  | .hbm, ⟨30, _⟩ => ⟨S2x2816x1024, .bf16⟩
  | .hbm, ⟨31, _⟩ => ⟨S8x2048x1024, .f32⟩
  | .hbm, ⟨32, _⟩ => ⟨S8x16x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S4x1024, .f32⟩
  | .local _ .vmem, ⟨5, _⟩ => ⟨S4x128x288, .bf16⟩
  | .local _ .vmem, ⟨6, _⟩ => ⟨S4x256x256, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x16x1024, .f32⟩
  | .local _ .vmem, ⟨13, _⟩ => ⟨S1x16x1024, .f32⟩
  | .local _ .vmem, ⟨14, _⟩ => ⟨S528x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v671 : BitVec 1 := Scalar.cmpi .eq arg1 c3_i32
  let v672 : BitVec 32 := Scalar.extui v671
  let c0_i32_287 : BitVec 32 := 0#32
  let v673 : BitVec 1 := Scalar.cmpi .ne v672 c0_i32_287
  v673

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8x2048x1024 : Shape := ⟨3, ![8, 2048, 1024]⟩
abbrev S2x8x6144 : Shape := ⟨3, ![2, 8, 6144]⟩
abbrev S2x2x1024 : Shape := ⟨3, ![2, 2, 1024]⟩
abbrev S1x4x256x256 : Shape := ⟨4, ![1, 4, 256, 256]⟩
abbrev S1x1024 : Shape := ⟨2, ![1, 1024]⟩
abbrev S2x1024x5632 : Shape := ⟨3, ![2, 1024, 5632]⟩
abbrev S2x2816x1024 : Shape := ⟨3, ![2, 2816, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x15x1024 : Shape := ⟨3, ![8, 15, 1024]⟩
abbrev S4x256x256 : Shape := ⟨3, ![4, 256, 256]⟩
abbrev S1024 : Shape := ⟨1, ![1024]⟩
abbrev S8x2063x1024 : Shape := ⟨3, ![8, 2063, 1024]⟩
abbrev S8x2064x1024 : Shape := ⟨3, ![8, 2064, 1024]⟩
abbrev S2048 : Shape := ⟨1, ![2048]⟩
abbrev S8x2048x256 : Shape := ⟨3, ![8, 2048, 256]⟩
abbrev S1x2048x1 : Shape := ⟨3, ![1, 2048, 1]⟩
abbrev S8x2048x4x256 : Shape := ⟨4, ![8, 2048, 4, 256]⟩
abbrev S4x256x8x2048 : Shape := ⟨4, ![4, 256, 8, 2048]⟩
abbrev S1x1x1024 : Shape := ⟨3, ![1, 1, 1024]⟩
abbrev S8x16x1024 : Shape := ⟨3, ![8, 16, 1024]⟩
abbrev S8x2048 : Shape := ⟨2, ![8, 2048]⟩
abbrev S8x2048x1 : Shape := ⟨3, ![8, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩

abbrev nBuf : Space → Nat
  | .hbm => 205
  | .vmem => 0
  | .smem => 0
  | _ => 0

abbrev hbmTy0_0 (i : Nat) : BufTy := match i % 128 with
  | 0 => ⟨S8x2048x1024, .f32⟩
  | 1 => ⟨S2x8x6144, .f32⟩
  | 2 => ⟨S2x2x1024, .f32⟩
  | 3 => ⟨S2x2x1024, .f32⟩
  | 4 => ⟨S1x4x256x256, .f32⟩
  | 5 => ⟨S1x1024, .f32⟩
  | 6 => ⟨S2x1024x5632, .f32⟩
  | 7 => ⟨S2x2816x1024, .f32⟩
  | 8 => ⟨S1x8x6144, .f32⟩
  | 9 => ⟨S8x6144, .f32⟩
  | 10 => ⟨S8x1x6144, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S_, .f32⟩
  | 18 => ⟨S8x1x1024, .f32⟩
  | 19 => ⟨S8x1x1024, .f32⟩
  | 20 => ⟨S8x2048x1024, .f32⟩
  | 21 => ⟨S8x2048x1024, .f32⟩
  | 22 => ⟨S8x2048x1024, .f32⟩
  | 23 => ⟨S8x2048x1024, .f32⟩
  | 24 => ⟨S_, .f32⟩
  | 25 => ⟨S8x15x1024, .f32⟩
  | 26 => ⟨S4x256x256, .f32⟩
  | 27 => ⟨S1024, .f32⟩
  | 28 => ⟨S8x2063x1024, .f32⟩
  | 29 => ⟨S_, .f32⟩
  | 30 => ⟨S8x1x1024, .f32⟩
  | 31 => ⟨S_, .f32⟩
  | 32 => ⟨S_, .f32⟩
  | 33 => ⟨S8x2063x1024, .f32⟩
  | 34 => ⟨S8x2064x1024, .f32⟩
  | 35 => ⟨S8x2048x1024, .f32⟩
  | 36 => ⟨S2048, .i32⟩
  | 37 => ⟨S_, .i32⟩
  | 38 => ⟨S2048, .i32⟩
  | 39 => ⟨S2048, .i32⟩
  | 40 => ⟨S8x2048x256, .f32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S2048, .f32⟩
  | 48 => ⟨S1x2048x1, .f32⟩
  | 49 => ⟨S8x2048x256, .f32⟩
  | 50 => ⟨S8x2048x256, .f32⟩
  | 51 => ⟨S8x2048x256, .f32⟩
  | 52 => ⟨S8x2048x256, .f32⟩
  | 53 => ⟨S8x2048x256, .f32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S2048, .f32⟩
  | 61 => ⟨S1x2048x1, .f32⟩
  | 62 => ⟨S8x2048x256, .f32⟩
  | 63 => ⟨S8x2048x256, .f32⟩
  | 64 => ⟨S8x2048x256, .f32⟩
  | 65 => ⟨S8x2048x256, .f32⟩
  | 66 => ⟨S8x2048x256, .f32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .f32⟩
  | 74 => ⟨S1x2048x1, .f32⟩
  | 75 => ⟨S8x2048x256, .f32⟩
  | 76 => ⟨S8x2048x256, .f32⟩
  | 77 => ⟨S8x2048x256, .f32⟩
  | 78 => ⟨S8x2048x256, .f32⟩
  | 79 => ⟨S8x2048x256, .f32⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S2048, .f32⟩
  | 87 => ⟨S1x2048x1, .f32⟩
  | 88 => ⟨S8x2048x256, .f32⟩
  | 89 => ⟨S8x2048x256, .f32⟩
  | 90 => ⟨S8x2048x256, .f32⟩
  | 91 => ⟨S8x2048x256, .f32⟩
  | 92 => ⟨S8x2048x1024, .f32⟩
  | 93 => ⟨S8x2048x1024, .f32⟩
  | 94 => ⟨S8x2048x4x256, .f32⟩
  | 95 => ⟨S4x256x8x2048, .f32⟩
  | 96 => ⟨S8x2048x4x256, .f32⟩
  | 97 => ⟨S8x2048x1024, .f32⟩
  | 98 => ⟨S1x1x1024, .f32⟩
  | 99 => ⟨S8x2048x1024, .f32⟩
  | 100 => ⟨S8x2048x1024, .f32⟩
  | 101 => ⟨S8x16x1024, .f32⟩
  | 102 => ⟨S_, .f32⟩
  | 103 => ⟨S8x2048x1024, .f32⟩
  | 104 => ⟨S8x2048x1024, .f32⟩
  | 105 => ⟨S8x2048x1024, .f32⟩
  | 106 => ⟨S8x2048x1024, .f32⟩
  | 107 => ⟨S8x2048x1024, .f32⟩
  | 108 => ⟨S1x1x1024, .f32⟩
  | 109 => ⟨S1024, .f32⟩
  | 110 => ⟨S1x1x1024, .f32⟩
  | 111 => ⟨S1024, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S8x2048x1024, .f32⟩
  | 119 => ⟨S8x2048x1024, .f32⟩
  | 120 => ⟨S8x2048x1024, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S_, .f32⟩
  | 2 => ⟨S8x2048x1, .f32⟩
  | 3 => ⟨S8x2048x1, .f32⟩
  | 4 => ⟨S8x2048x1, .f32⟩
  | 5 => ⟨S8x2048x1024, .f32⟩
  | 6 => ⟨S8x2048x1024, .f32⟩
  | 7 => ⟨S1x1x1024, .f32⟩
  | 8 => ⟨S8x2048x1024, .f32⟩
  | 9 => ⟨S8x2048x1024, .f32⟩
  | 10 => ⟨S1x1x1024, .f32⟩
  | 11 => ⟨S8x2048x1024, .f32⟩
  | 12 => ⟨S8x2048x1024, .f32⟩
  | 13 => ⟨S_, .f32⟩
  | 14 => ⟨S8x1x1024, .f32⟩
  | 15 => ⟨S8x1x1024, .f32⟩
  | 16 => ⟨S8x2048x1024, .f32⟩
  | 17 => ⟨S8x2048x1024, .f32⟩
  | 18 => ⟨S8x2048x1024, .f32⟩
  | 19 => ⟨S8x2048x1024, .f32⟩
  | 20 => ⟨S_, .f32⟩
  | 21 => ⟨S8x2048x1024, .f32⟩
  | 22 => ⟨S8x2048x1024, .f32⟩
  | 23 => ⟨S1x1024x5632, .f32⟩
  | 24 => ⟨S1024x5632, .f32⟩
  | 25 => ⟨S1x2816x1024, .f32⟩
  | 26 => ⟨S2816x1024, .f32⟩
  | 27 => ⟨S8x2048x5632, .f32⟩
  | 28 => ⟨S8x2048x2816, .f32⟩
  | 29 => ⟨S8x2048x2816, .f32⟩
  | 30 => ⟨S8x2048x2816, .f32⟩
  | 31 => ⟨S8x2048x2816, .f32⟩
  | 32 => ⟨S_, .f32⟩
  | 33 => ⟨S8x2048x2816, .f32⟩
  | 34 => ⟨S8x2048x2816, .f32⟩
  | 35 => ⟨S_, .f32⟩
  | 36 => ⟨S8x2048x2816, .f32⟩
  | 37 => ⟨S8x2048x2816, .f32⟩
  | 38 => ⟨S8x2048x2816, .f32⟩
  | 39 => ⟨S8x2048x2816, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1x1024, .f32⟩
  | 45 => ⟨S1024, .f32⟩
  | 46 => ⟨S1x1x1024, .f32⟩
  | 47 => ⟨S1024, .f32⟩
  | 48 => ⟨S_, .f32⟩
  | 49 => ⟨S8x2048, .f32⟩
  | 50 => ⟨S8x2048x1, .f32⟩
  | 51 => ⟨S_, .f32⟩
  | 52 => ⟨S8x2048x1, .f32⟩
  | 53 => ⟨S8x2048x1, .f32⟩
  | 54 => ⟨S8x2048x1024, .f32⟩
  | 55 => ⟨S8x2048x1024, .f32⟩
  | 56 => ⟨S8x2048x1024, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S8x2048x1024, .f32⟩
  | 64 => ⟨S8x2048x1024, .f32⟩
  | 65 => ⟨S_, .f32⟩
  | 66 => ⟨S8x2048x1, .f32⟩
  | 67 => ⟨S8x2048x1, .f32⟩
  | 68 => ⟨S8x2048x1, .f32⟩
  | 69 => ⟨S8x2048x1024, .f32⟩
  | 70 => ⟨S8x2048x1024, .f32⟩
  | 71 => ⟨S1x1x1024, .f32⟩
  | 72 => ⟨S8x2048x1024, .f32⟩
  | 73 => ⟨S8x2048x1024, .f32⟩
  | 74 => ⟨S1x1x1024, .f32⟩
  | 75 => ⟨S8x2048x1024, .f32⟩
  | 76 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_call0_call0_cst : Ref sig .tc := ⟨.hbm, 31, rfl⟩
abbrev main_call0_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_6 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_8 : Ref sig .tc := ⟨.hbm, 80, rfl⟩
abbrev main_v60 : Ref sig .tc := ⟨.hbm, 81, rfl⟩
abbrev main_v61 : Ref sig .tc := ⟨.hbm, 82, rfl⟩
abbrev main_c_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_13 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_15 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_16 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_17 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_call1_v0 : Ref sig .tc := ⟨.hbm, 158, rfl⟩
abbrev main_call1_v1 : Ref sig .tc := ⟨.hbm, 159, rfl⟩
abbrev main_call1_cst : Ref sig .tc := ⟨.hbm, 160, rfl⟩
abbrev main_call1_v2 : Ref sig .tc := ⟨.hbm, 161, rfl⟩
abbrev main_call1_v3 : Ref sig .tc := ⟨.hbm, 162, rfl⟩
abbrev main_call1_cst_0 : Ref sig .tc := ⟨.hbm, 163, rfl⟩
abbrev main_call1_v4 : Ref sig .tc := ⟨.hbm, 164, rfl⟩
abbrev main_call1_v5 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_18 : Ref sig .tc := ⟨.hbm, 176, rfl⟩
abbrev main_v138 : Ref sig .tc := ⟨.hbm, 177, rfl⟩
abbrev main_v139 : Ref sig .tc := ⟨.hbm, 178, rfl⟩
abbrev main_cst_19 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_20 : Ref sig .tc := ⟨.hbm, 185, rfl⟩
abbrev main_v145 : Ref sig .tc := ⟨.hbm, 186, rfl⟩
abbrev main_v146 : Ref sig .tc := ⟨.hbm, 187, rfl⟩
abbrev main_cst_21 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_22 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x2048 : Shape := ⟨3, ![8, 2048, 2048]⟩
abbrev S2x8x6144 : Shape := ⟨3, ![2, 8, 6144]⟩
abbrev S2x2x1024 : Shape := ⟨3, ![2, 2, 1024]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S2x1024 : Shape := ⟨2, ![2, 1024]⟩
abbrev S2x4x1024 : Shape := ⟨3, ![2, 4, 1024]⟩
abbrev S2x8x1x6144 : Shape := ⟨4, ![2, 8, 1, 6144]⟩
abbrev S1x8x1x6144 : Shape := ⟨4, ![1, 8, 1, 6144]⟩
abbrev S8x1x6144 : Shape := ⟨3, ![8, 1, 6144]⟩
abbrev S1x4x1024 : Shape := ⟨3, ![1, 4, 1024]⟩
abbrev S4x1024 : Shape := ⟨2, ![4, 1024]⟩
abbrev S2048x1024 : Shape := ⟨2, ![2048, 1024]⟩
abbrev S1x512x1024 : Shape := ⟨3, ![1, 512, 1024]⟩
abbrev S1x512x2048 : Shape := ⟨3, ![1, 512, 2048]⟩
abbrev S1x1x6144 : Shape := ⟨3, ![1, 1, 6144]⟩
abbrev S1x1024x5632 : Shape := ⟨3, ![1, 1024, 5632]⟩
abbrev S1x2816x1024 : Shape := ⟨3, ![1, 2816, 1024]⟩
abbrev S1x256x2048 : Shape := ⟨3, ![1, 256, 2048]⟩
abbrev S256x2048 : Shape := ⟨2, ![256, 2048]⟩
abbrev S256x1024 : Shape := ⟨2, ![256, 1024]⟩
abbrev S512x1024 : Shape := ⟨2, ![512, 1024]⟩
abbrev S1x6144 : Shape := ⟨2, ![1, 6144]⟩
abbrev S1x1024 : Shape := ⟨2, ![1, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 31
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .bf16⟩
  | .hbm, ⟨2, _⟩ => ⟨S2x8x6144, .f32⟩
  | .hbm, ⟨3, _⟩ => ⟨S2x2x1024, .f32⟩
  | .hbm, ⟨4, _⟩ => ⟨S2x2x1024, .f32⟩
  | .hbm, ⟨5, _⟩ => ⟨S1x2048x1024, .f32⟩
  | .hbm, ⟨6, _⟩ => ⟨S2x1024x5632, .f32⟩
  | .hbm, ⟨7, _⟩ => ⟨S2x2816x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x4x1024, .f32⟩
  | .hbm, ⟨21, _⟩ => ⟨S2x8x1x6144, .f32⟩
  | .hbm, ⟨22, _⟩ => ⟨S1x8x1x6144, .f32⟩
  | .hbm, ⟨23, _⟩ => ⟨S8x1x6144, .f32⟩
  | .hbm, ⟨24, _⟩ => ⟨S1x4x1024, .f32⟩
  | .hbm, ⟨25, _⟩ => ⟨S4x1024, .f32⟩
  | .hbm, ⟨26, _⟩ => ⟨S2048x1024, .f32⟩
  | .hbm, ⟨27, _⟩ => ⟨S2048x1024, .bf16⟩
  | .hbm, ⟨28, _⟩ => ⟨S2x1024x5632, .bf16⟩
  | .hbm, ⟨29, _⟩ => ⟨S2x2816x1024, .bf16⟩
  | .hbm, ⟨30, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x2048, .bf16⟩
  | .local _ .vmem, ⟨3, _⟩ => ⟨S1x512x2048, .bf16⟩
  | .local _ .vmem, ⟨4, _⟩ => ⟨S1x1x6144, .f32⟩
  | .local _ .vmem, ⟨5, _⟩ => ⟨S1x1x6144, .f32⟩
  | .local _ .vmem, ⟨6, _⟩ => ⟨S4x1024, .f32⟩
  | .local _ .vmem, ⟨7, _⟩ => ⟨S2048x1024, .bf16⟩
  | .local _ .vmem, ⟨8, _⟩ => ⟨S1x1024x5632, .bf16⟩
  | .local _ .vmem, ⟨9, _⟩ => ⟨S1x2816x1024, .bf16⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x2048x1024 : Shape := ⟨3, ![8, 2048, 1024]⟩
abbrev S8x2048x2048 : Shape := ⟨3, ![8, 2048, 2048]⟩
abbrev S2x8x6144 : Shape := ⟨3, ![2, 8, 6144]⟩
abbrev S2x2x1024 : Shape := ⟨3, ![2, 2, 1024]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S2048x1024 : Shape := ⟨2, ![2048, 1024]⟩
abbrev S_ : Shape := ⟨0, ![]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .bf16⟩
  | .hbm, ⟨2, _⟩ => ⟨S2x8x6144, .f32⟩
  | .hbm, ⟨3, _⟩ => ⟨S2x2x1024, .f32⟩
  | .hbm, ⟨4, _⟩ => ⟨S2x2x1024, .f32⟩
  | .hbm, ⟨5, _⟩ => ⟨S1x2048x1024, .f32⟩
  | .hbm, ⟨6, _⟩ => ⟨S2x1024x5632, .f32⟩
  | .hbm, ⟨7, _⟩ => ⟨S2x2816x1024, .f32⟩
  | .hbm, ⟨8, _⟩ => ⟨S1x8x6144, .f32⟩
  | .hbm, ⟨9, _⟩ => ⟨S8x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x2048, .f32⟩
  | .hbm, ⟨18, _⟩ => ⟨S2048x1024, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048x1024, .f32⟩
  | .hbm, ⟨68, _⟩ => ⟨S8x2048x1024, .f32⟩
  | .hbm, ⟨69, _⟩ => ⟨S1x1024x5632, .f32⟩
  | .hbm, ⟨70, _⟩ => ⟨S1024x5632, .f32⟩
  | .hbm, ⟨71, _⟩ => ⟨S1x2816x1024, .f32⟩
  | .hbm, ⟨72, _⟩ => ⟨S2816x1024, .f32⟩
  | .hbm, ⟨73, _⟩ => ⟨S8x2048x5632, .f32⟩
  | .hbm, ⟨74, _⟩ => ⟨S8x2048x2816, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S_, .f32⟩
  | .hbm, ⟨79, _⟩ => ⟨S8x2048x2816, .f32⟩
  | .hbm, ⟨80, _⟩ => ⟨S8x2048x2816, .f32⟩
  | .hbm, ⟨81, _⟩ => ⟨S_, .f32⟩
  | .hbm, ⟨82, _⟩ => ⟨S8x2048x2816, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S1024, .f32⟩
  | .hbm, ⟨92, _⟩ => ⟨S1x1x1024, .f32⟩
  | .hbm, ⟨93, _⟩ => ⟨S1024, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S_, .f32⟩
  | .hbm, ⟨104, _⟩ => ⟨S8x2048, .f32⟩
  | .hbm, ⟨105, _⟩ => ⟨S8x2048x1, .f32⟩
  | .hbm, ⟨106, _⟩ => ⟨S_, .f32⟩
  | .hbm, ⟨107, _⟩ => ⟨S8x2048x1, .f32⟩
  | .hbm, ⟨108, _⟩ => ⟨S8x2048x1, .f32⟩
  | .hbm, ⟨109, _⟩ => ⟨S8x2048x1024, .f32⟩
  | .hbm, ⟨110, _⟩ => ⟨S8x2048x1024, .f32⟩
  | .hbm, ⟨111, _⟩ => ⟨S_, .f32⟩
  | .hbm, ⟨112, _⟩ => ⟨S8x2048x1, .f32⟩
  | .hbm, ⟨113, _⟩ => ⟨S8x2048x1, .f32⟩
  | .hbm, ⟨114, _⟩ => ⟨S8x2048x1, .f32⟩
  | .hbm, ⟨115, _⟩ => ⟨S8x2048x1024, .f32⟩
  | .hbm, ⟨116, _⟩ => ⟨S8x2048x1024, .f32⟩
  | .hbm, ⟨117, _⟩ => ⟨S1x1x1024, .f32⟩
  | .hbm, ⟨118, _⟩ => ⟨S8x2048x1024, .f32⟩
  | .hbm, ⟨119, _⟩ => ⟨S8x2048x1024, .f32⟩
  | .hbm, ⟨120, _⟩ => ⟨S1x1x1024, .f32⟩
  | .hbm, ⟨121, _⟩ => ⟨S8x2048x1024, .f32⟩
  | .hbm, ⟨122, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_7 : Ref sig .tc := ⟨.hbm, 94, rfl⟩
abbrev main_v70 : Ref sig .tc := ⟨.hbm, 95, rfl⟩
abbrev main_v71 : Ref sig .tc := ⟨.hbm, 96, rfl⟩
abbrev main_cst_8 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_cst_10 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel4.lean ====
abbrev S1x128x1024 : Shape := ⟨3, ![1, 128, 1024]⟩
abbrev S2x136x6144 : Shape := ⟨3, ![2, 136, 6144]⟩
abbrev S2x2x1024 : Shape := ⟨3, ![2, 2, 1024]⟩
abbrev S1x128x15x1024 : Shape := ⟨4, ![1, 128, 15, 1024]⟩
abbrev S1x4x256x256 : Shape := ⟨4, ![1, 4, 256, 256]⟩
abbrev S1x1024 : Shape := ⟨2, ![1, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S2x1024 : Shape := ⟨2, ![2, 1024]⟩
abbrev S2x4x1024 : Shape := ⟨3, ![2, 4, 1024]⟩
abbrev S1x4x1024 : Shape := ⟨3, ![1, 4, 1024]⟩
abbrev S4x1024 : Shape := ⟨2, ![4, 1024]⟩
abbrev S128x15x1024 : Shape := ⟨3, ![128, 15, 1024]⟩
abbrev S15x128x1024 : Shape := ⟨3, ![15, 128, 1024]⟩
abbrev S4x256x256 : Shape := ⟨3, ![4, 256, 256]⟩
abbrev S1x128x6144 : Shape := ⟨3, ![1, 128, 6144]⟩
abbrev S1x1024x5632 : Shape := ⟨3, ![1, 1024, 5632]⟩
abbrev S1x2816x1024 : Shape := ⟨3, ![1, 2816, 1024]⟩
abbrev S128x1024 : Shape := ⟨2, ![128, 1024]⟩
abbrev S128x6144 : Shape := ⟨2, ![128, 6144]⟩
abbrev S128x256 : Shape := ⟨2, ![128, 256]⟩
abbrev S1x128x256 : Shape := ⟨3, ![1, 128, 256]⟩
abbrev S1x256x256 : Shape := ⟨3, ![1, 256, 256]⟩
abbrev S256x256 : Shape := ⟨2, ![256, 256]⟩
abbrev S128 : Shape := ⟨1, ![128]⟩
abbrev S128x1 : Shape := ⟨2, ![128, 1]⟩
abbrev S1x1024x1536 : Shape := ⟨3, ![1, 1024, 1536]⟩
abbrev S1024x1536 : Shape := ⟨2, ![1024, 1536]⟩
abbrev S128x1536 : Shape := ⟨2, ![128, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S128x1280 : Shape := ⟨2, ![128, 1280]⟩
abbrev S1x1280x1024 : Shape := ⟨3, ![1, 1280, 1024]⟩
abbrev S1280x1024 : Shape := ⟨2, ![1280, 1024]⟩

abbrev nBuf : Space → Nat
  | .hbm => 32
  | .vmem => 10
  | .smem => 0
  | _ => 0

abbrev bufTy : (tb : Table) → Fin (tcTables nBuf tb) → BufTy
  | .hbm, ⟨0, _⟩ => ⟨S1x128x1024, .f32⟩
  | .hbm, ⟨1, _⟩ => ⟨S2x136x6144, .f32⟩
  | .hbm, ⟨2, _⟩ => ⟨S2x2x1024, .f32⟩
  | .hbm, ⟨3, _⟩ => ⟨S2x2x1024, .f32⟩
  | .hbm, ⟨4, _⟩ => ⟨S1x128x15x1024, .f32⟩
  | .hbm, ⟨5, _⟩ => ⟨S1x4x256x256, .f32⟩
  | .hbm, ⟨6, _⟩ => ⟨S1x1024, .f32⟩
  | .hbm, ⟨7, _⟩ => ⟨S2x1024x5632, .f32⟩
  | .hbm, ⟨8, _⟩ => ⟨S2x2816x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x4x1024, .f32⟩
  | .hbm, ⟨22, _⟩ => ⟨S1x4x1024, .f32⟩
  | .hbm, ⟨23, _⟩ => ⟨S4x1024, .f32⟩
  | .hbm, ⟨24, _⟩ => ⟨S128x15x1024, .f32⟩
  | .hbm, ⟨25, _⟩ => ⟨S15x128x1024, .f32⟩
  | .hbm, ⟨26, _⟩ => ⟨S4x256x256, .f32⟩
  | .hbm, ⟨27, _⟩ => ⟨S4x256x256, .bf16⟩
  | .hbm, ⟨28, _⟩ => ⟨S2x1024x5632, .bf16⟩
  | .hbm, ⟨29, _⟩ => ⟨S2x2816x1024, .bf16⟩
  | .hbm, ⟨30, _⟩ => ⟨S1x128x1024, .f32⟩
  | .hbm, ⟨31, _⟩ => ⟨S15x128x1024, .f32⟩
  | .local _ .vmem, ⟨0, _⟩ => ⟨S1x128x1024, .f32⟩
  | .local _ .vmem, ⟨1, _⟩ => ⟨S1x128x6144, .f32⟩
  | .local _ .vmem, ⟨2, _⟩ => ⟨S4x1024, .f32⟩
  | .local _ .vmem, ⟨3, _⟩ => ⟨S15x128x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x128x1024, .f32⟩
  | .local _ .vmem, ⟨9, _⟩ => ⟨S15x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S1x128x1024 : Shape := ⟨3, ![1, 128, 1024]⟩
abbrev S2x136x6144 : Shape := ⟨3, ![2, 136, 6144]⟩
abbrev S2x2x1024 : Shape := ⟨3, ![2, 2, 1024]⟩
abbrev S1x128x15x1024 : Shape := ⟨4, ![1, 128, 15, 1024]⟩
abbrev S1x4x256x256 : Shape := ⟨4, ![1, 4, 256, 256]⟩
abbrev S1x1024 : Shape := ⟨2, ![1, 1024]⟩
abbrev S2x1024x5632 : Shape := ⟨3, ![2, 1024, 5632]⟩
abbrev S2x2816x1024 : Shape := ⟨3, ![2, 2816, 1024]⟩
abbrev S128x1x1024 : Shape := ⟨3, ![128, 1, 1024]⟩
abbrev S1x128x6144 : Shape := ⟨3, ![1, 128, 6144]⟩
abbrev S128x6144 : Shape := ⟨2, ![128, 6144]⟩
abbrev S128x1x6144 : Shape := ⟨3, ![128, 1, 6144]⟩
abbrev S_ : Shape := ⟨0, ![]⟩
abbrev S128x15x1024 : Shape := ⟨3, ![128, 15, 1024]⟩
abbrev S4x256x256 : Shape := ⟨3, ![4, 256, 256]⟩
abbrev S1024 : Shape := ⟨1, ![1024]⟩
abbrev S128x16x1024 : Shape := ⟨3, ![128, 16, 1024]⟩
abbrev S128x17x1024 : Shape := ⟨3, ![128, 17, 1024]⟩
abbrev S1 : Shape := ⟨1, ![1]⟩
abbrev S128x1x256 : Shape := ⟨3, ![128, 1, 256]⟩
abbrev S1x1x1 : Shape := ⟨3, ![1, 1, 1]⟩
abbrev S128x1x4x256 : Shape := ⟨4, ![128, 1, 4, 256]⟩
abbrev S4x256x128x1 : Shape := ⟨4, ![4, 256, 128, 1]⟩
abbrev S1x1x1024 : Shape := ⟨3, ![1, 1, 1024]⟩
abbrev S128x1 : Shape := ⟨2, ![128, 1]⟩
abbrev S128x1x1 : Shape := ⟨3, ![128, 1, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S128x1x5632 : Shape := ⟨3, ![128, 1, 5632]⟩
abbrev S128x1x2816 : Shape := ⟨3, ![128, 1, 2816]⟩
abbrev S15x128x1024 : Shape := ⟨3, ![15, 128, 1024]⟩

abbrev nBuf : Space → Nat
  | .hbm => 204
  | .vmem => 0
  | .smem => 0
  | _ => 0

abbrev hbmTy0_0 (i : Nat) : BufTy := match i % 128 with
  | 0 => ⟨S1x128x1024, .f32⟩
  | 1 => ⟨S2x136x6144, .f32⟩
  | 2 => ⟨S2x2x1024, .f32⟩
  | 3 => ⟨S2x2x1024, .f32⟩
  | 4 => ⟨S1x128x15x1024, .f32⟩
  | 5 => ⟨S1x4x256x256, .f32⟩
  | 6 => ⟨S1x1024, .f32⟩
  | 7 => ⟨S2x1024x5632, .f32⟩
  | 8 => ⟨S2x2816x1024, .f32⟩
  | 9 => ⟨S128x1x1024, .f32⟩
  | 10 => ⟨S1x128x6144, .f32⟩
  | 11 => ⟨S128x6144, .f32⟩
  | 12 => ⟨S128x1x6144, .f32⟩
  | 13 => ⟨S128x1x1024, .f32⟩
  | 14 => ⟨S128x1x1024, .f32⟩
  | 15 => ⟨S128x1x1024, .f32⟩
  | 16 => ⟨S128x1x1024, .f32⟩
  | 17 => ⟨S128x1x1024, .f32⟩
  | 18 => ⟨S128x1x1024, .f32⟩
  | 19 => ⟨S_, .f32⟩
  | 20 => ⟨S128x1x1024, .f32⟩
  | 21 => ⟨S128x1x1024, .f32⟩
  | 22 => ⟨S128x1x1024, .f32⟩
  | 23 => ⟨S128x1x1024, .f32⟩
  | 24 => ⟨S128x15x1024, .f32⟩
  | 25 => ⟨S4x256x256, .f32⟩
  | 26 => ⟨S1024, .f32⟩
  | 27 => ⟨S128x16x1024, .f32⟩
  | 28 => ⟨S_, .f32⟩
  | 29 => ⟨S128x1x1024, .f32⟩
  | 30 => ⟨S_, .f32⟩
  | 31 => ⟨S_, .f32⟩
  | 32 => ⟨S128x16x1024, .f32⟩
  | 33 => ⟨S128x17x1024, .f32⟩
  | 34 => ⟨S128x1x1024, .f32⟩
  | 35 => ⟨S1, .i32⟩
  | 36 => ⟨S_, .i32⟩
  | 37 => ⟨S1, .i32⟩
  | 38 => ⟨S1, .i32⟩
  | 39 => ⟨S128x1x256, .f32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .f32⟩
  | 47 => ⟨S1x1x1, .f32⟩
  | 48 => ⟨S128x1x256, .f32⟩
  | 49 => ⟨S128x1x256, .f32⟩
  | 50 => ⟨S128x1x256, .f32⟩
  | 51 => ⟨S128x1x256, .f32⟩
  | 52 => ⟨S128x1x256, .f32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .f32⟩
  | 60 => ⟨S1x1x1, .f32⟩
  | 61 => ⟨S128x1x256, .f32⟩
  | 62 => ⟨S128x1x256, .f32⟩
  | 63 => ⟨S128x1x256, .f32⟩
  | 64 => ⟨S128x1x256, .f32⟩
  | 65 => ⟨S128x1x256, .f32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .f32⟩
  | 73 => ⟨S1x1x1, .f32⟩
  | 74 => ⟨S128x1x256, .f32⟩
  | 75 => ⟨S128x1x256, .f32⟩
  | 76 => ⟨S128x1x256, .f32⟩
  | 77 => ⟨S128x1x256, .f32⟩
  | 78 => ⟨S128x1x256, .f32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .f32⟩
  | 86 => ⟨S1x1x1, .f32⟩
  | 87 => ⟨S128x1x256, .f32⟩
  | 88 => ⟨S128x1x256, .f32⟩
  | 89 => ⟨S128x1x256, .f32⟩
  | 90 => ⟨S128x1x256, .f32⟩
  | 91 => ⟨S128x1x1024, .f32⟩
  | 92 => ⟨S128x1x1024, .f32⟩
  | 93 => ⟨S128x1x4x256, .f32⟩
  | 94 => ⟨S4x256x128x1, .f32⟩
  | 95 => ⟨S128x1x4x256, .f32⟩
  | 96 => ⟨S128x1x1024, .f32⟩
  | 97 => ⟨S1x1x1024, .f32⟩
  | 98 => ⟨S128x1x1024, .f32⟩
  | 99 => ⟨S128x1x1024, .f32⟩
  | 100 => ⟨S128x15x1024, .f32⟩
  | 101 => ⟨S128x16x1024, .f32⟩
  | 102 => ⟨S128x15x1024, .f32⟩
  | 103 => ⟨S_, .f32⟩
  | 104 => ⟨S128x1x1024, .f32⟩
  | 105 => ⟨S128x1x1024, .f32⟩
  | 106 => ⟨S128x1x1024, .f32⟩
  | 107 => ⟨S128x1x1024, .f32⟩
  | 108 => ⟨S1x1x1024, .f32⟩
  | 109 => ⟨S1024, .f32⟩
  | 110 => ⟨S1x1x1024, .f32⟩
  | 111 => ⟨S1024, .f32⟩
  | 112 => ⟨S_, .f32⟩
  | 113 => ⟨S128x1, .f32⟩
  | 114 => ⟨S128x1x1, .f32⟩
  | 115 => ⟨S_, .f32⟩
  | 116 => ⟨S128x1x1, .f32⟩
  | 117 => ⟨S128x1x1, .f32⟩
  | 118 => ⟨S128x1x1024, .f32⟩
  | 119 => ⟨S128x1x1024, .f32⟩
  | 120 => ⟨S128x1x1024, .f32⟩
  | 121 => ⟨S_, .f32⟩
  | 122 => ⟨S128x1, .f32⟩
  | 123 => ⟨S128x1x1, .f32⟩
  | 124 => ⟨S_, .f32⟩
  | 125 => ⟨S128x1x1, .f32⟩
  | 126 => ⟨S128x1x1, .f32⟩
  | 127 => ⟨S128x1x1024, .f32⟩
  | _ => ⟨S1x128x1024, .f32⟩

abbrev hbmTy0_1 (i : Nat) : BufTy := match i % 128 with
  | 0 => ⟨S128x1x1024, .f32⟩
  | 1 => ⟨S_, .f32⟩
  | 2 => ⟨S128x1x1, .f32⟩
  | 3 => ⟨S128x1x1, .f32⟩
  | 4 => ⟨S128x1x1, .f32⟩
  | 5 => ⟨S128x1x1024, .f32⟩
  | 6 => ⟨S128x1x1024, .f32⟩
  | 7 => ⟨S1x1x1024, .f32⟩
  | 8 => ⟨S128x1x1024, .f32⟩
  | 9 => ⟨S128x1x1024, .f32⟩
  | 10 => ⟨S1x1x1024, .f32⟩
  | 11 => ⟨S128x1x1024, .f32⟩
  | 12 => ⟨S128x1x1024, .f32⟩
  | 13 => ⟨S_, .f32⟩
  | 14 => ⟨S128x1x1024, .f32⟩
  | 15 => ⟨S128x1x1024, .f32⟩
  | 16 => ⟨S128x1x1024, .f32⟩
  | 17 => ⟨S128x1x1024, .f32⟩
  | 18 => ⟨S_, .f32⟩
  | 19 => ⟨S128x1x1024, .f32⟩
  | 20 => ⟨S128x1x1024, .f32⟩
  | 21 => ⟨S1x1024x5632, .f32⟩
  | 22 => ⟨S1024x5632, .f32⟩
  | 23 => ⟨S1x2816x1024, .f32⟩
  | 24 => ⟨S2816x1024, .f32⟩
  | 25 => ⟨S128x1x5632, .f32⟩
  | 26 => ⟨S128x1x2816, .f32⟩
  | 27 => ⟨S128x1x2816, .f32⟩
  | 28 => ⟨S128x1x2816, .f32⟩
  | 29 => ⟨S128x1x2816, .f32⟩
  | 30 => ⟨S_, .f32⟩
  | 31 => ⟨S128x1x2816, .f32⟩
  | 32 => ⟨S128x1x2816, .f32⟩
  | 33 => ⟨S_, .f32⟩
  | 34 => ⟨S128x1x2816, .f32⟩
  | 35 => ⟨S128x1x2816, .f32⟩
  | 36 => ⟨S128x1x2816, .f32⟩
  | 37 => ⟨S128x1x2816, .f32⟩
  | 38 => ⟨S128x1x1024, .f32⟩
  | 39 => ⟨S128x1x1024, .f32⟩
  | 40 => ⟨S128x1x1024, .f32⟩
  | 41 => ⟨S1x1x1024, .f32⟩
  | 42 => ⟨S1024, .f32⟩
  | 43 => ⟨S1x1x1024, .f32⟩
  | 44 => ⟨S1024, .f32⟩
  | 45 => ⟨S_, .f32⟩
  | 46 => ⟨S128x1, .f32⟩
  | 47 => ⟨S128x1x1, .f32⟩
  | 48 => ⟨S_, .f32⟩
  | 49 => ⟨S128x1x1, .f32⟩
  | 50 => ⟨S128x1x1, .f32⟩
  | 51 => ⟨S128x1x1024, .f32⟩
  | 52 => ⟨S128x1x1024, .f32⟩
  | 53 => ⟨S128x1x1024, .f32⟩
  | 54 => ⟨S_, .f32⟩
  | 55 => ⟨S128x1, .f32⟩
  | 56 => ⟨S128x1x1, .f32⟩
  | 57 => ⟨S_, .f32⟩
  | 58 => ⟨S128x1x1, .f32⟩
  | 59 => ⟨S128x1x1, .f32⟩
  | 60 => ⟨S128x1x1024, .f32⟩
  | 61 => ⟨S128x1x1024, .f32⟩
  | 62 => ⟨S_, .f32⟩
  | 63 => ⟨S128x1x1, .f32⟩
  | 64 => ⟨S128x1x1, .f32⟩
  | 65 => ⟨S128x1x1, .f32⟩
  | 66 => ⟨S128x1x1024, .f32⟩
  | 67 => ⟨S128x1x1024, .f32⟩
  | 68 => ⟨S1x1x1024, .f32⟩
  | 69 => ⟨S128x1x1024, .f32⟩
  | 70 => ⟨S128x1x1024, .f32⟩
  | 71 => ⟨S1x1x1024, .f32⟩
  | 72 => ⟨S128x1x1024, .f32⟩
  | 73 => ⟨S128x1x1024, .f32⟩
  | 74 => ⟨S1x128x1024, .f32⟩
  | 75 => ⟨S15x128x1024, .f32⟩
  | _ => ⟨S1x128x1024, .f32⟩

abbrev hbmTy (i : Nat) : BufTy := match i / 128 with
  | 0 => hbmTy0_0 i
  | 1 => hbmTy0_1 i
  | _ => ⟨S1x128x1024, .f32⟩

abbrev bufTy : (tb : Table) → Fin (tcTables nBuf tb) → BufTy
  | .hbm, ⟨i, _⟩ => hbmTy i
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_call0_call0_cst : Ref sig .tc := ⟨.hbm, 30, rfl⟩
abbrev main_call0_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_7 : Ref sig .tc := ⟨.hbm, 79, rfl⟩
abbrev main_v59 : Ref sig .tc := ⟨.hbm, 80, rfl⟩
abbrev main_v60 : Ref sig .tc := ⟨.hbm, 81, rfl⟩
abbrev main_c_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_10 : Ref sig .tc := ⟨.hbm, 112, rfl⟩
abbrev main_v89 : Ref sig .tc := ⟨.hbm, 113, rfl⟩
abbrev main_v90 : Ref sig .tc := ⟨.hbm, 114, rfl⟩
abbrev main_cst_11 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_12 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_14 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_15 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_16 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_call1_v0 : Ref sig .tc := ⟨.hbm, 156, rfl⟩
abbrev main_call1_v1 : Ref sig .tc := ⟨.hbm, 157, rfl⟩
abbrev main_call1_cst : Ref sig .tc := ⟨.hbm, 158, rfl⟩
abbrev main_call1_v2 : Ref sig .tc := ⟨.hbm, 159, rfl⟩
abbrev main_call1_v3 : Ref sig .tc := ⟨.hbm, 160, rfl⟩
abbrev main_call1_cst_0 : Ref sig .tc := ⟨.hbm, 161, rfl⟩
abbrev main_call1_v4 : Ref sig .tc := ⟨.hbm, 162, rfl⟩
abbrev main_call1_v5 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_17 : Ref sig .tc := ⟨.hbm, 173, rfl⟩
abbrev main_v135 : Ref sig .tc := ⟨.hbm, 174, rfl⟩
abbrev main_v136 : Ref sig .tc := ⟨.hbm, 175, rfl⟩
abbrev main_cst_18 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_19 : Ref sig .tc := ⟨.hbm, 182, rfl⟩
abbrev main_v142 : Ref sig .tc := ⟨.hbm, 183, rfl⟩
abbrev main_v143 : Ref sig .tc := ⟨.hbm, 184, rfl⟩
abbrev main_cst_20 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_21 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩

abbrev nD : Nat := 1
abbrev τ : Topo := Topo.v7x

variable {F : FTy → Type} [FloatOps F]
-- ==== Proof.Rows.lean ====
/- The mathematics that the calls of this certificate share, row by row and over the extended reals: LayerNorm of a row of
   1024 entries, the gated feed-forward block (1024 → 2 · 2816 → 1024) of a row, and a whole layer's tail — residual,
   norm, feed-forward, residual, norm — of a row. Nothing here names a program: the kernels' blocks and the references'
   arrays are both read down to these functions elsewhere. -/
module

public import Idealize.ShloMosaic.PureOps.Ideal
public import Mathlib.Algebra.BigOperators.Fin

@[expose] public section

noncomputable section

open Idealize.ShloMosaic

namespace Cert.Rows

/-- A row of 1024 extended reals. -/
abbrev Row := Fin 1024 → EReal

/-- The literal 1024 as the programs print it. -/
abbrev width : EReal := Ideal.ofBits .f32 0x44800000#32

/-- The literal 10⁻⁵ that keeps the norm's root away from zero. -/
abbrev eps : EReal := Ideal.ofBits .f32 0x3727C5AC#32

/-- The residual's factor, the fourth root of 2 · DEPTH. -/
abbrev alpha : EReal := Ideal.ofBits .f32 0x3FB504F3#32

/-- The mean of a row. -/
def mean (f : Row) : EReal := Ideal.div (∑ k, f k) width

/-- LayerNorm of the row `f` with gain `g` and offset `b`. -/
def norm (f g b : Row) : Row := fun j =>
  (f j - mean f) * Ideal.rsqrt (mean (fun k => (f k - mean f) * (f k - mean f)) + eps) * g j + b j

/-- Entry `q` of the row `u` times the matrix that widens it. -/
def widen (u : Row) (wu : Fin 1024 → Fin 5632 → EReal) (q : Fin 5632) : EReal := ∑ k, u k * wu k q

/-- A hidden unit from entry `p` of the gate half, through x · logistic x, and entry `q` of the other half. -/
def unit (u : Row) (wu : Fin 1024 → Fin 5632 → EReal) (p q : Fin 5632) : EReal :=
  widen u wu p * Ideal.logistic (widen u wu p) * widen u wu q

/-- Hidden unit `q`. -/
def hidden (u : Row) (wu : Fin 1024 → Fin 5632 → EReal) (q : Fin 2816) : EReal :=
  unit u wu ⟨q.val, by omega⟩ ⟨2816 + q.val, by omega⟩

/-- The feed-forward block of a row. -/
def ffn (u : Row) (wu : Fin 1024 → Fin 5632 → EReal) (wd : Fin 2816 → Fin 1024 → EReal) : Row := fun j =>
  ∑ q, hidden u wu q * wd q j

/-- The 1024 entries of a layer's 6144 modulation entries that begin at `o`. -/
def part (md : Fin 6144 → EReal) (o : ℕ) (h : o + 1024 ≤ 6144 := by decide) : Row := fun j => md ⟨o + j.val, by omega⟩

/-- The first half of a layer's tail: residual and mixer's output `h`, normed. -/
def mid (y h : Row) (md : Fin 6144 → EReal) (g b : Row) : Row :=
  norm (fun j => alpha * y j + part md 2048 (by decide) j * h j) g b

/-- The row that enters the feed-forward block: scaled and shifted. -/
def enter (z : Row) (md : Fin 6144 → EReal) : Row :=
  fun k => z k * (1 + part md 4096 (by decide) k) + part md 3072 (by decide) k

/-- The second half: the feed-forward block of the modulated row, its residual, normed. -/
def last (z : Row) (md : Fin 6144 → EReal) (g b : Row) (wu : Fin 1024 → Fin 5632 → EReal)
    (wd : Fin 2816 → Fin 1024 → EReal) : Row :=
  norm (fun j => alpha * z j + part md 5120 (by decide) j * ffn (enter z md) wu wd j) g b

/-- The feed-forward block summed in two pieces, hidden units below 1536 and from there on. -/
theorem ffn_two (u : Row) (wu : Fin 1024 → Fin 5632 → EReal) (wd : Fin 2816 → Fin 1024 → EReal) (j : Fin 1024) :
    ffn u wu wd j = (∑ q : Fin 1536, hidden u wu ⟨q.val, by omega⟩ * wd ⟨q.val, by omega⟩ j)
      + ∑ q : Fin 1280, unit u wu ⟨1536 + q.val, by omega⟩ ⟨4352 + q.val, by omega⟩ * wd ⟨1536 + q.val, by omega⟩ j := by
  unfold ffn
  refine (Fin.sum_univ_add (a := 1536) (b := 1280) (fun q : Fin (1536 + 1280) => hidden u wu q * wd q j)).trans ?_
  refine congrArg₂ (· + ·) rfl (Finset.sum_congr rfl fun q _ => ?_)
  refine congrArg₂ (· * ·) (congrArg (unit u wu _) (Fin.ext ?_)) rfl
  show 2816 + (1536 + q.val) = 4352 + q.val
  omega

end Cert.Rows

end
-- ==== Proof.PostBlock.lean ====
/- What the out-projection call's body leaves in its output block, row by row: entry (0, r, j) of the block is entry `j`
   of the layer's tail (`Rows.mid`, `Rows.last`) of row `r` of the input blocks. The body works on the rows below 256 and
   on the others apart, and sums the feed-forward block's hidden units in two pieces; neither shows in the result. -/
module

public import proofs.«01_k».proof.Proof.Gen.Kernel3Ideal.Frame
public import proofs.«01_k».proof.Proof.Rows
public import Idealize.ShloMosaic.Lib.Pointwise
public import Idealize.ShloMosaic.Lib.Pipeline.ValueKit

@[expose] public section

set_option maxRecDepth 16384

noncomputable section

open Idealize.ShloMosaic

namespace Cert.PostBlock

open Cert.Kernel3Ideal Cert.Kernel3Ideal.Gen Cert.Rows

/-- A row of a block with 256 rows. -/
abbrev row (a : FVec Ideal S256x1024 .f32) (r : Fin 256) : Row := fun k => a (ix2 r k)

/-- The one row of a block with a single row. -/
abbrev row1 (a : FVec Ideal S1x1024 .f32) : Row := fun k => a (ix2 0 k)

/-- The widening matrix in a block. -/
abbrev wide (x5 : Vec Ideal S1x1024x5632 .bf16) : Fin 1024 → Fin 5632 → EReal := fun k q => x5 (ix3 0 k q)

/-- The narrowing matrix in a block. -/
abbrev narrow (x6 : Vec Ideal S1x2816x1024 .bf16) : Fin 2816 → Fin 1024 → EReal := fun q j => x6 (ix3 0 q j)

/-- LayerNorm of a lower row, its mean given apart. -/
theorem norm_lower (a : FVec Ideal S256x1024 .f32) (g b : FVec Ideal S1x1024 .f32) (mu : FVec Ideal S256x1024 .f32)
    (r : Fin 256) (hmu : ∀ k, mu (ix2 r k) = mean (row a r)) (j : Fin 1024) :
    k0_pay14 a g b mu (ix2 r j) = norm (row a r) (row1 g) (row1 b) j := by
  pointwise [k0_pay14]
  simp only [hmu]
  rfl

/-- The first piece of the feed-forward sum, a lower row. -/
theorem ffn_lower (u : FVec Ideal S256x1024 .f32) (x5 : Vec Ideal S1x1024x5632 .bf16) (x6 : Vec Ideal S1x2816x1024 .bf16)
    (r : Fin 256) (j : Fin 1024) :
    k0_pay19 u (View.ld x5 r0_6) (View.ld x5 r0_7) (View.ld x6 r0_8) (ix2 r j)
      = ∑ q : Fin 1536, hidden (row u r) (wide x5) ⟨q.val, by omega⟩ * narrow x6 ⟨q.val, by omega⟩ j := by
  pointwise [k0_pay19, k0_pay17]
  rfl

/-- The feed-forward sum completed, with the residual, a lower row. -/
theorem resid_lower (v20 : FVec Ideal S1x1024 .f32) (z u : FVec Ideal S256x1024 .f32)
    (x5 : Vec Ideal S1x1024x5632 .bf16) (x6 : Vec Ideal S1x2816x1024 .bf16) (r : Fin 256) (j : Fin 1024) :
    k0_pay22 v20 z (k0_pay17 u) (k0_pay19 u (View.ld x5 r0_6) (View.ld x5 r0_7) (View.ld x6 r0_8))
        (View.ld x5 r0_9) (View.ld x5 r0_10) (View.ld x6 r0_11) (ix2 r j)
      = alpha * row z r j + row1 v20 j * ffn (row u r) (wide x5) (narrow x6) j := by
  rw [ffn_two, ← ffn_lower]
  pointwise [k0_pay22, k0_pay17]
  rfl

/-- The feed-forward block of an upper row. -/
theorem ffn_upper (v18 v19 : FVec Ideal S1x1024 .f32) (z : FVec Ideal S256x1024 .f32)
    (x5 : Vec Ideal S1x1024x5632 .bf16) (x6 : Vec Ideal S1x2816x1024 .bf16) (r : Fin 256) (j : Fin 1024) :
    k0_pay21 (k0_pay18 v18 v19 z) (k0_pay20 v18 v19 z (View.ld x5 r0_6) (View.ld x5 r0_7) (View.ld x6 r0_8))
        (View.ld x5 r0_9) (View.ld x5 r0_10) (View.ld x6 r0_11) (ix2 r j)
      = ffn (fun k => row z r k * (1 + row1 v19 k) + row1 v18 k) (wide x5) (narrow x6) j := by
  rw [ffn_two]
  pointwise [k0_pay21, k0_pay20, k0_pay18]
  rfl

/-- The last norm, a row below 256. -/
theorem last_lower (v16 : FVec Ideal S4x1024 .f32) (v20 : FVec Ideal S1x1024 .f32) (z f w : FVec Ideal S256x1024 .f32)
    (g b : FVec Ideal S1x1024 .f32) (r : Fin 512) (h : r.val < 256) (j : Fin 1024) :
    k0_pay25 v16 v20 z f w g b (ix2 r j) = norm (row w ⟨r.val, h⟩) (row1 g) (row1 b) j := by
  pointwise [k0_pay25]
  rw [dif_pos h]
  rfl

/-- The last norm, a row from 256 on. -/
theorem last_upper (v16 : FVec Ideal S4x1024 .f32) (v20 : FVec Ideal S1x1024 .f32) (z f w : FVec Ideal S256x1024 .f32)
    (g b : FVec Ideal S1x1024 .f32) (r : Fin 512) (h : ¬r.val < 256) (j : Fin 1024) :
    k0_pay25 v16 v20 z f w g b (ix2 r j)
      = norm (fun k => alpha * row z ⟨r.val - 256, by omega⟩ k + row1 v20 k * row f ⟨r.val - 256, by omega⟩ k)
          (fun k => v16 (ix2 2 k)) (fun k => v16 (ix2 3 k)) j := by
  pointwise [k0_pay25]
  rw [dif_neg h]
  rfl

section block

variable (x0 : Vec Ideal S1x512x1024 .f32) (x1 : Vec Ideal S1x512x2048 .bf16) (x2 : Vec Ideal S1x1x6144 .f32)
  (x3 : Vec Ideal S4x1024 .f32) (x4 : Vec Ideal S2048x1024 .bf16) (x5 : Vec Ideal S1x1024x5632 .bf16)
  (x6 : Vec Ideal S1x2816x1024 .bf16)

/-- The out-projection of row `r` of the block. -/
abbrev proj (r : Fin 512) : Row := fun j => ∑ v : Fin 2048, x1 (ix3 0 r v) * x4 (ix2 v j)

/-- Row `r` after the first norm. -/
abbrev midRow (r : Fin 512) : Row :=
  mid (fun k => x0 (ix3 0 r k)) (proj x1 x4 r) (fun q => x2 (ix3 0 0 q)) (fun k => x3 (ix2 0 k)) (fun k => x3 (ix2 1 k))

/-- A lower row before the first norm. -/
theorem pre_lower (r : Fin 256) (j : Fin 1024) : k0_pay30 x0 x1 x2 x3 x4 x5 x6 (ix2 r j)
    = alpha * x0 (ix3 0 ⟨r.val, by omega⟩ j)
      + part (fun q => x2 (ix3 0 0 q)) 2048 (by decide) j * proj x1 x4 ⟨r.val, by omega⟩ j := by
  pointwise [k0_pay30, k0_pay10, k0_pay2, k0_pay3, k0_pay6, k0_pay4]
  rfl

/-- Its mean. -/
theorem mean_lower (r : Fin 256) (j : Fin 1024) : k0_pay33 x0 x1 x2 x3 x4 x5 x6 (ix2 r j)
    = mean (row (k0_pay30 x0 x1 x2 x3 x4 x5 x6) r) := by
  pointwise [k0_pay33, k0_pay13]
  rfl

/-- A lower row after the first norm. -/
theorem mid_lower (r : Fin 256) (j : Fin 1024) :
    k0_pay14 (k0_pay30 x0 x1 x2 x3 x4 x5 x6) (k0_pay31 x0 x1 x2 x3 x4 x5 x6) (k0_pay32 x0 x1 x2 x3 x4 x5 x6)
      (k0_pay33 x0 x1 x2 x3 x4 x5 x6) (ix2 r j) = midRow x0 x1 x2 x3 x4 ⟨r.val, by omega⟩ j := by
  rw [norm_lower _ _ _ _ r (fun k => mean_lower x0 x1 x2 x3 x4 x5 x6 r k)]
  have e : row (k0_pay30 x0 x1 x2 x3 x4 x5 x6) r = _ := funext fun k => pre_lower x0 x1 x2 x3 x4 x5 x6 r k
  have e1 : row1 (k0_pay31 x0 x1 x2 x3 x4 x5 x6) = fun k => x3 (ix2 0 k) := by
    funext k; pointwise [k0_pay31, k0_pay11, k0_pay5]
  have e2 : row1 (k0_pay32 x0 x1 x2 x3 x4 x5 x6) = fun k => x3 (ix2 1 k) := by
    funext k; pointwise [k0_pay32, k0_pay12, k0_pay5]
  rw [e, e1, e2]
  rfl

/-- An upper row after the first norm. -/
theorem mid_upper (r : Fin 256) (j : Fin 1024) : k0_pay34 x0 x1 x2 x3 x4 x5 x6 (ix2 r j)
    = midRow x0 x1 x2 x3 x4 ⟨256 + r.val, by omega⟩ j := by
  pointwise [k0_pay34, k0_pay15, k0_pay2, k0_pay3, k0_pay26, k0_pay5, k0_pay6, k0_pay4]
  rfl

/-- The modulation's rows and the norm's rows as the body cuts them. -/
theorem shift_row : row1 (k0_pay27 x0 x1 x2 x3 x4 x5 x6) = part (fun q => x2 (ix3 0 0 q)) 3072 (by decide) := by
  funext k; pointwise [k0_pay27, k0_pay7, k0_pay4]; rfl

theorem scale_row : row1 (k0_pay28 x0 x1 x2 x3 x4 x5 x6) = part (fun q => x2 (ix3 0 0 q)) 4096 (by decide) := by
  funext k; pointwise [k0_pay28, k0_pay8, k0_pay4]; rfl

theorem gate_row : row1 (k0_pay29 x0 x1 x2 x3 x4 x5 x6) = part (fun q => x2 (ix3 0 0 q)) 5120 (by decide) := by
  funext k; pointwise [k0_pay29, k0_pay9, k0_pay4]; rfl

/-- A lower row as it enters the feed-forward block. -/
theorem enter_lower (r : Fin 256) : row (k0_pay35 x0 x1 x2 x3 x4 x5 x6) r
    = enter (midRow x0 x1 x2 x3 x4 ⟨r.val, by omega⟩) (fun q => x2 (ix3 0 0 q)) := by
  funext k
  have h := mid_lower x0 x1 x2 x3 x4 x5 x6 r k
  have hs := congrFun (shift_row x0 x1 x2 x3 x4 x5 x6) k
  have hc := congrFun (scale_row x0 x1 x2 x3 x4 x5 x6) k
  pointwise [k0_pay35, k0_pay16]
  rw [h]
  simp only [enter, ← hs, ← hc]

/-- THE BLOCK: what the body stores, row by row. -/
theorem out_apply (r : Fin 512) (j : Fin 1024) : out0_7 x0 x1 x2 x3 x4 x5 x6 (ix3 0 r j)
    = last (midRow x0 x1 x2 x3 x4 r) (fun q => x2 (ix3 0 0 q)) (fun k => x3 (ix2 2 k)) (fun k => x3 (ix2 3 k))
        (wide x5) (narrow x6) j := by
  frame_out
  pointwise [k0_pay1]
  by_cases h : r.val < 256
  · rw [last_lower _ _ _ _ _ _ _ r h]
    have e : ∀ z : FVec Ideal S256x1024 .f32, (∀ k, z (ix2 ⟨r.val, h⟩ k) = midRow x0 x1 x2 x3 x4 r k) →
        row (k0_pay22 (k0_pay29 x0 x1 x2 x3 x4 x5 x6) z (k0_pay17 (k0_pay35 x0 x1 x2 x3 x4 x5 x6))
          (k0_pay19 (k0_pay35 x0 x1 x2 x3 x4 x5 x6) (View.ld x5 r0_6) (View.ld x5 r0_7) (View.ld x6 r0_8))
          (View.ld x5 r0_9) (View.ld x5 r0_10) (View.ld x6 r0_11)) ⟨r.val, h⟩
        = fun j => alpha * midRow x0 x1 x2 x3 x4 r j + part (fun q => x2 (ix3 0 0 q)) 5120 (by decide) j
            * ffn (enter (midRow x0 x1 x2 x3 x4 r) (fun q => x2 (ix3 0 0 q))) (wide x5) (narrow x6) j := by
      intro z hz
      funext k
      rw [show ∀ a : FVec Ideal S256x1024 .f32, row a ⟨r.val, h⟩ k = a (ix2 ⟨r.val, h⟩ k) from fun _ => rfl,
        resid_lower, enter_lower, gate_row]
      exact congrArg (fun t => alpha * t + _) (hz k)
    rw [e _ (fun k => mid_lower x0 x1 x2 x3 x4 x5 x6 ⟨r.val, h⟩ k)]
    have e1 : row1 (k0_pay23 (k0_pay26 x0 x1 x2 x3 x4 x5 x6)) = fun k => x3 (ix2 2 k) := by
      funext k; pointwise [k0_pay23, k0_pay26, k0_pay5]
    have e2 : row1 (k0_pay24 (k0_pay26 x0 x1 x2 x3 x4 x5 x6)) = fun k => x3 (ix2 3 k) := by
      funext k; pointwise [k0_pay24, k0_pay26, k0_pay5]
    rw [e1, e2]
    rfl
  · rw [last_upper _ _ _ _ _ _ _ r h]
    have er : (⟨256 + (r.val - 256), by omega⟩ : Fin 512) = r := Fin.ext (by show 256 + (r.val - 256) = r.val; omega)
    have ez : row (k0_pay34 x0 x1 x2 x3 x4 x5 x6) ⟨r.val - 256, by omega⟩ = midRow x0 x1 x2 x3 x4 r := by
      funext k
      exact (mid_upper x0 x1 x2 x3 x4 x5 x6 ⟨r.val - 256, by omega⟩ k).trans
        (congrArg (fun i => midRow x0 x1 x2 x3 x4 i k) er)
    have ef : row (k0_pay21
          (k0_pay18 (k0_pay27 x0 x1 x2 x3 x4 x5 x6) (k0_pay28 x0 x1 x2 x3 x4 x5 x6) (k0_pay34 x0 x1 x2 x3 x4 x5 x6))
          (k0_pay20 (k0_pay27 x0 x1 x2 x3 x4 x5 x6) (k0_pay28 x0 x1 x2 x3 x4 x5 x6) (k0_pay34 x0 x1 x2 x3 x4 x5 x6)
            (View.ld x5 r0_6) (View.ld x5 r0_7) (View.ld x6 r0_8))
          (View.ld x5 r0_9) (View.ld x5 r0_10) (View.ld x6 r0_11)) ⟨r.val - 256, by omega⟩
        = ffn (enter (midRow x0 x1 x2 x3 x4 r) (fun q => x2 (ix3 0 0 q))) (wide x5) (narrow x6) := by
      funext k
      rw [show ∀ a : FVec Ideal S256x1024 .f32, row a ⟨r.val - 256, by omega⟩ k = a (ix2 ⟨r.val - 256, by omega⟩ k) from
        fun _ => rfl, ffn_upper, ez, shift_row, scale_row]
      rfl
    rw [ez, ef, gate_row]
    have e1 : (fun k => k0_pay26 x0 x1 x2 x3 x4 x5 x6 (ix2 2 k)) = fun k => x3 (ix2 2 k) := by
      funext k; pointwise [k0_pay26, k0_pay5]
    have e2 : (fun k => k0_pay26 x0 x1 x2 x3 x4 x5 x6 (ix2 3 k)) = fun k => x3 (ix2 3 k) := by
      funext k; pointwise [k0_pay26, k0_pay5]
    rw [e1, e2]
    rfl

end block

end Cert.PostBlock

end
-- ==== Proof.Tail.lean ====
/- A layer's tail over whole arrays: what entry (b, r, j) of the layer's output is, from the argument arrays. The layer is
   chosen by `i`; the mixer's output row is given. -/
module

public import proofs.«01_k».proof.Proof.Rows
public import Idealize.ShloMosaic.Lib.Pointwise

@[expose] public section

noncomputable section

open Idealize.ShloMosaic

namespace Cert.Rows

/-- An array of extended reals. -/
abbrev Arr (s : Shape) := s.Idx → EReal

/-- Layer `i`'s modulation of sequence `b`. -/
abbrev modRow (mod : Arr ⟨3, ![2, 8, 6144]⟩) (i : Fin 2) (b : Fin 8) : Fin 6144 → EReal := fun q => mod (ix3 i b q)

/-- Layer `i`'s norm row number `q`. -/
abbrev lnRow (g : Arr ⟨3, ![2, 2, 1024]⟩) (i q : Fin 2) : Row := fun k => g (ix3 i q k)

/-- Row `r` of sequence `b`. -/
abbrev seqRow (y : Arr ⟨3, ![8, 2048, 1024]⟩) (b : Fin 8) (r : Fin 2048) : Row := fun k => y (ix3 b r k)

/-- Layer `i`'s widening matrix. -/
abbrev wideAt (w : Arr ⟨3, ![2, 1024, 5632]⟩) (i : Fin 2) : Fin 1024 → Fin 5632 → EReal := fun k q => w (ix3 i k q)

/-- Layer `i`'s narrowing matrix. -/
abbrev narrowAt (w : Arr ⟨3, ![2, 2816, 1024]⟩) (i : Fin 2) : Fin 2816 → Fin 1024 → EReal := fun q j => w (ix3 i q j)

/-- Layer `i`'s output row, from the row `y` that enters it and the mixer's output row `h`. -/
def tail (i : Fin 2) (mod : Arr ⟨3, ![2, 8, 6144]⟩) (g b : Arr ⟨3, ![2, 2, 1024]⟩) (wu : Arr ⟨3, ![2, 1024, 5632]⟩)
    (wd : Arr ⟨3, ![2, 2816, 1024]⟩) (s : Fin 8) (y h : Row) : Row :=
  last (mid y h (modRow mod i s) (lnRow g i 0) (lnRow b i 0)) (modRow mod i s) (lnRow g i 1) (lnRow b i 1)
    (wideAt wu i) (narrowAt wd i)

/-- The out-projection of row `r` of sequence `s`. -/
def outProj (o : Arr ⟨3, ![8, 2048, 2048]⟩) (w : Arr ⟨3, ![1, 2048, 1024]⟩) (s : Fin 8) (r : Fin 2048) : Row :=
  fun j => ∑ v : Fin 2048, o (ix3 s r v) * w (ix3 0 v j)

end Cert.Rows

end
-- ==== Proof.PostValue.lean ====
/- The out-projection call's result array after the run: entry (s, r, j) is entry j of layer 0's tail of row r of sequence
   s, the mixer's output being the out-projection of the recurrence's output row. -/
module

public import proofs.«01_k».proof.Proof.PostBlock
public import proofs.«01_k».proof.Proof.Tail
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PostValue

open Cert.Kernel3Ideal Cert.Kernel3Ideal.Gen Cert.Rows

variable (m : (ℓ : Loc nD τ sig) → Buf (Elt Ideal) ℓ)

/-- The windows' block indices at point `t` of the grid of 8 sequences by 4 row tiles. -/
theorem idx : ∀ t : Fin cfg0.N, win0_0.index t = ![t.val / 4, t.val % 4, 0] ∧ win0_1.index t = ![t.val / 4, t.val % 4, 0]
    ∧ win0_2.index t = ![t.val / 4, 0, 0] ∧ win0_3.index t = ![0, 0] ∧ win0_4.index t = ![0, 0]
    ∧ win0_5.index t = ![0, 0, 0] ∧ win0_6.index t = ![0, 0, 0] ∧ win0_7.index t = ![t.val / 4, t.val % 4, 0]
    ∧ t.val / 4 < 8 :=
  (by decide +kernel : ∀ t : Fin grid0.N, _)

/-- Point `t`'s sequence. -/
abbrev seqOf (t : Fin cfg0.N) : Fin 8 := ⟨t.val / 4, (idx t).2.2.2.2.2.2.2.2⟩

/-- Row `r` of point `t`'s tile. -/
abbrev rowOf (t : Fin cfg0.N) (r : Fin 512) : Fin 2048 := ⟨t.val % 4 * 512 + r.val, by omega⟩

theorem read_x (c : Dev nD) (t : Fin cfg0.N) (r : Fin 512) (k : Fin 1024) :
    iblk m c 0 t (ix3 0 r k) = m ((c : Thread nD τ).loc main_arg0) (ix3 (seqOf t) (rowOf t r) k) := by
  blk_ext [iblk, V, idx t]

theorem read_o (c : Dev nD) (t : Fin cfg0.N) (r : Fin 512) (k : Fin 2048) :
    iblk m c 1 t (ix3 0 r k) = m ((c : Thread nD τ).loc main_arg1) (ix3 (seqOf t) (rowOf t r) k) := by
  blk_ext [iblk, V, idx t]

theorem read_mod (c : Dev nD) (t : Fin cfg0.N) (q : Fin 6144) :
    iblk m c 2 t (ix3 0 0 q) = m ((c : Thread nD τ).loc main_arg2) (ix3 0 (seqOf t) q) := by
  blk_ext! [iblk, V, idx t]

theorem read_w (c : Dev nD) (t : Fin cfg0.N) (v : Fin 2048) (k : Fin 1024) :
    iblk m c 4 t (ix2 v k) = m ((c : Thread nD τ).loc main_arg5) (ix3 0 v k) := by
  blk_ext! [iblk, V, idx t]

theorem read_up (c : Dev nD) (t : Fin cfg0.N) (k : Fin 1024) (q : Fin 5632) :
    iblk m c 5 t (ix3 0 k q) = m ((c : Thread nD τ).loc main_arg6) (ix3 0 k q) := by
  blk_ext! [iblk, V, idx t]

theorem read_down (c : Dev nD) (t : Fin cfg0.N) (q : Fin 2816) (j : Fin 1024) :
    iblk m c 6 t (ix3 0 q j) = m ((c : Thread nD τ).loc main_arg7) (ix3 0 q j) := by
  blk_ext! [iblk, V, idx t]

/-- The block of the stacked norm rows is the stack that the host made. -/
theorem read_ln (c : Dev nD) (t : Fin cfg0.N) (q : Fin 4) (k : Fin 1024) :
    iblk m c 3 t (ix2 q k) = V m c main_v17 (ix2 q k) := by
  blk_ext [iblk, (idx t).2.2.2.1]

theorem ln_g0 (c : Dev nD) (k : Fin 1024) : V m c main_v17 (ix2 0 k) = m ((c : Thread nD τ).loc main_arg3) (ix3 0 0 k) := by
  unfold V; after_reads_at; after_reads_at

theorem ln_b0 (c : Dev nD) (k : Fin 1024) : V m c main_v17 (ix2 1 k) = m ((c : Thread nD τ).loc main_arg4) (ix3 0 0 k) := by
  unfold V; after_reads_at; after_reads_at

theorem ln_g1 (c : Dev nD) (k : Fin 1024) : V m c main_v17 (ix2 2 k) = m ((c : Thread nD τ).loc main_arg3) (ix3 0 1 k) := by
  unfold V; after_reads_at; after_reads_at

theorem ln_b1 (c : Dev nD) (k : Fin 1024) : V m c main_v17 (ix2 3 k) = m ((c : Thread nD τ).loc main_arg4) (ix3 0 1 k) := by
  unfold V; after_reads_at; after_reads_at

/-- The result as a function of the argument arrays. -/
def G (x : Arr ⟨3, ![8, 2048, 1024]⟩) (o : Arr ⟨3, ![8, 2048, 2048]⟩) (mod : Arr ⟨3, ![2, 8, 6144]⟩)
    (g b : Arr ⟨3, ![2, 2, 1024]⟩) (w : Arr ⟨3, ![1, 2048, 1024]⟩) (wu : Arr ⟨3, ![2, 1024, 5632]⟩)
    (wd : Arr ⟨3, ![2, 2816, 1024]⟩) : Arr ⟨3, ![8, 2048, 1024]⟩ := fun i =>
  tail 0 mod g b wu wd (i 0) (seqRow x (i 0) (i 1)) (outProj o w (i 0) (i 1)) (i 2)

/-- What point `t` stores at (0, r, j) is the result at that row of its tile. -/
theorem point (c : Dev nD) (t : Fin cfg0.N) (r : Fin 512) (j : Fin 1024) :
    out0_7 (iblk m c 0 t) (iblk m c 1 t) (iblk m c 2 t) (iblk m c 3 t) (iblk m c 4 t) (iblk m c 5 t) (iblk m c 6 t) (ix3 0 r j)
      = tail 0 (m ((c : Thread nD τ).loc main_arg2)) (m ((c : Thread nD τ).loc main_arg3)) (m ((c : Thread nD τ).loc main_arg4))
          (m ((c : Thread nD τ).loc main_arg6)) (m ((c : Thread nD τ).loc main_arg7)) (seqOf t)
          (seqRow (m ((c : Thread nD τ).loc main_arg0)) (seqOf t) (rowOf t r))
          (outProj (m ((c : Thread nD τ).loc main_arg1)) (m ((c : Thread nD τ).loc main_arg5)) (seqOf t) (rowOf t r)) j := by
  rw [PostBlock.out_apply]
  unfold tail PostBlock.midRow PostBlock.proj PostBlock.wide PostBlock.narrow
  simp only [read_x, read_o, read_mod, read_w, read_up, read_down, read_ln]
  have e0 := funext (ln_g0 m c)
  have e1 := funext (ln_b0 m c)
  have e2 := funext (ln_g1 m c)
  have e3 := funext (ln_b1 m c)
  refine Eq.trans (congrFun (congr (congr (congrArg (fun z g b => last z _ g b _ _) ?_) e2) e3) j) rfl
  exact congr (congrArg (mid _ _ _) e0) e1

/-- THE RESULT ARRAY. -/
theorem final (c : Dev nD) : (dats m 0 c).arrAt 7 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 7 _ (by decide +kernel) fun t _ y => ?_
  blk_simp
  rw [after0_7]
  idx_vars y
  obtain rfl : y0 = 0 := Subsingleton.elim _ _
  rw [point]
  have e : ((cfg0.win 7).blk t).view.emb (ix3 0 y1 y2) = ix3 (seqOf t) (rowOf t y1) y2 := by blk_ext [idx t]
  rw [e]
  rfl

end Cert.PostValue

end
-- ==== Proof.PostRef.lean ====
/- The reference of the out-projection call, read at an entry: the same tail of the same row. -/
module

public import proofs.«01_k».proof.Proof.Gen.Reference3Ideal.Read
public import proofs.«01_k».proof.Proof.PostValue

@[expose] public section

set_option maxRecDepth 16384

noncomputable section

open Idealize.ShloMosaic

namespace Cert.PostRef

open Cert.Reference3Ideal Cert.Reference3Ideal.Gen Cert.Reference3Ideal.Read Cert.Rows

variable (x : Arr ⟨3, ![8, 2048, 1024]⟩) (o : Arr ⟨3, ![8, 2048, 2048]⟩) (mod : Arr ⟨3, ![2, 8, 6144]⟩)
  (g b : Arr ⟨3, ![2, 2, 1024]⟩) (w : Arr ⟨3, ![1, 2048, 1024]⟩) (wu : Arr ⟨3, ![2, 1024, 5632]⟩)
  (wd : Arr ⟨3, ![2, 2816, 1024]⟩)

/-- The first residual. -/
theorem res (s : Fin 8) (r : Fin 2048) (j : Fin 1024) : val_main_v16 (F := Ideal) x o mod w (ix3 s r j)
    = alpha * x (ix3 s r j) + part (modRow mod 0 s) 2048 (by decide) j * outProj o w s r j := by
  pointwise [val_main_v16, val_main_v15, val_main_v14, val_main_v13, val_main_v12, val_main_v11, val_main_v10,
    val_main_v9, val_main_v5, val_main_v2, val_main_v1, val_main_v0, val_main_cst]
  rfl

/-- The first norm of the residual's row. -/
theorem norm1 (s : Fin 8) (r : Fin 2048) (j : Fin 1024) : val_main_v44 (F := Ideal) x o mod g b w (ix3 s r j)
    = norm (fun k => val_main_v16 (F := Ideal) x o mod w (ix3 s r k)) (lnRow g 0 0) (lnRow b 0 0) j := by
  pointwise [val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v17, val_main_cst_0, val_main_cst_1,
    val_main_cst_2, val_main_cst_3, val_main_cst_4]
  rfl

/-- The row that enters the feed-forward block. -/
theorem ent (s : Fin 8) (r : Fin 2048) (k : Fin 1024) : val_main_v50 (F := Ideal) x o mod g b w (ix3 s r k)
    = enter (fun k => val_main_v44 (F := Ideal) x o mod g b w (ix3 s r k)) (modRow mod 0 s) k := by
  pointwise [val_main_v50, val_main_v49, val_main_v48, val_main_v47, val_main_v46, val_main_v45, val_main_cst_5,
    val_main_v7, val_main_v6, val_main_v2, val_main_v1, val_main_v0]
  rfl

/-- The widened row. -/
theorem wid (s : Fin 8) (r : Fin 2048) (q : Fin 5632) : val_main_v57 (F := Ideal) x o mod g b w wu (ix3 s r q)
    = widen (fun k => val_main_v50 (F := Ideal) x o mod g b w (ix3 s r k)) (wideAt wu 0) q := by
  pointwise [val_main_v57, val_main_v54, val_main_v53]
  rfl

/-- A hidden unit. -/
theorem hid (s : Fin 8) (r : Fin 2048) (q : Fin 2816) : val_main_v61 (F := Ideal) x o mod g b w wu (ix3 s r q)
    = hidden (fun k => val_main_v50 (F := Ideal) x o mod g b w (ix3 s r k)) (wideAt wu 0) q := by
  pointwise [val_main_v61, val_main_v60, val_main_call0_v5, val_main_call0_v4, val_main_call0_v3, val_main_call0_v2,
    val_main_call0_v1, val_main_call0_v0, val_main_call0_cst, val_main_call0_cst_0, val_main_v59, val_main_v58]
  rw [wid, wid]
  rfl

/-- The second residual. -/
theorem res2 (s : Fin 8) (r : Fin 2048) (j : Fin 1024) : val_main_v65 (F := Ideal) x o mod g b w wu wd (ix3 s r j)
    = alpha * val_main_v44 (F := Ideal) x o mod g b w (ix3 s r j) + part (modRow mod 0 s) 5120 (by decide) j
        * ∑ q : Fin 2816, val_main_v61 (F := Ideal) x o mod g b w wu (ix3 s r q) * narrowAt wd 0 q j := by
  pointwise [val_main_v65, val_main_v64, val_main_v63, val_main_v62, val_main_v56, val_main_v55, val_main_v52,
    val_main_v51, val_main_cst_6, val_main_v8, val_main_v2, val_main_v1, val_main_v0]
  rfl

/-- The second norm of the second residual's row. -/
theorem norm2 (s : Fin 8) (r : Fin 2048) (j : Fin 1024) : val_main_v93 (F := Ideal) x o mod g b w wu wd (ix3 s r j)
    = norm (fun k => val_main_v65 (F := Ideal) x o mod g b w wu wd (ix3 s r k)) (lnRow g 0 1) (lnRow b 0 1) j := by
  pointwise [val_main_v93, val_main_v92, val_main_v91, val_main_v90, val_main_v89, val_main_v88, val_main_v87,
    val_main_v86, val_main_v85, val_main_v84, val_main_v83, val_main_v82, val_main_v81, val_main_v80, val_main_v79,
    val_main_v78, val_main_v77, val_main_v76, val_main_v75, val_main_v74, val_main_v73, val_main_v72, val_main_v71,
    val_main_v70, val_main_v69, val_main_v68, val_main_v67, val_main_v66, val_main_cst_7, val_main_cst_8,
    val_main_cst_9, val_main_cst_10, val_main_cst_11]
  rfl

/-- THE REFERENCE'S RESULT is the kernel's. -/
theorem result : val_main_v93 (F := Ideal) x o mod g b w wu wd = PostValue.G x o mod g b w wu wd := by
  funext i
  idx_vars i
  rw [norm2]
  unfold PostValue.G tail last ffn mid
  simp only [res2, hid, ent, norm1, res]
  rfl

end Cert.PostRef

end
-- ==== Proof.PostClaim.lean ====
/- The out-projection call and its reference end with equal results. -/
module

public import proofs.«01_k».proof.Defs
public import proofs.«01_k».proof.Proof.Gen.Reference3Ideal.Run
public import proofs.«01_k».proof.Proof.PostRef

@[expose] public section

set_option maxRecDepth 16384

noncomputable section

namespace Cert.PostClaim

open Idealize.ShloMosaic Idealize.SL.Sem

set_option maxHeartbeats 1600000 in
theorem algebraic : Cert.algebraic_Kernel3Ideal_Reference3Ideal := by
  pair_intro
  · run_from Cert.Kernel3Ideal.Gen.run_main m g
  · run_from Cert.Reference3Ideal.Value.run m' g'
    obtain ⟨h0, h1, h2, h3, h4, h5, h6, h7⟩ := hagree c
    refine Eq.trans ?_ (Cert.PostValue.final m c).symm
    rw [← h0, ← h1, ← h2, ← h3, ← h4, ← h5, ← h6, ← h7]
    exact (Cert.Reference3Ideal.Read.val_main_v93_eq (F := Ideal) (StableHlo.launchContents m' c)).trans
      (Cert.PostRef.result _ _ _ _ _ _ _ _)

end Cert.PostClaim

end
-- ==== Proof.Window.lean ====
/- The pooling mixer's mathematics over one tile: the rows of a tile stand after 16 rows of halo, and the mean over the
   last w rows (w = 2, 4, 8, 16 by the column's group of 256) is taken by a product with a band of ones, once for the rows
   and once for what is left of them after rounding, which over the reals is zero. -/
module

public import proofs.«01_k».proof.Proof.Rows
public import Idealize.ShloMosaic.Lib.Pointwise

@[expose] public section

noncomputable section

open Idealize.ShloMosaic

namespace Cert.Window

/-- A value that is neither infinity. -/
def Finite (x : EReal) : Prop := x ≠ ⊤ ∧ x ≠ ⊥

theorem sub_self_of {x : EReal} (h : Finite x) : x - x = 0 := EReal.sub_self h.1 h.2

/-- Whether the band of width `w` has a one in row `i`, column `x`: the first 128 columns stand for the block's own rows,
    the next 16 for the rows before it. -/
def inside (w i x : Nat) : Bool :=
  cond (Nat.ble 128 x) (Nat.ble (Nat.add i 145) (Nat.add x w)) (cond (Nat.ble x i) (Nat.ble (Nat.add i 1) (Nat.add x w)) false)

theorem inside_own {w i x : Nat} (h : x < 128) : inside w i x = true ↔ x ≤ i ∧ i < x + w := by
  unfold inside
  have : Nat.ble 128 x = false := by rw [← Bool.not_eq_true, Nat.ble_eq]; omega
  rw [this]
  simp only [cond_false, Nat.add_eq]
  by_cases h1 : x ≤ i
  · rw [Nat.ble_eq_true_of_le h1]; simp only [cond_true, Nat.ble_eq]; omega
  · have : Nat.ble x i = false := by rw [← Bool.not_eq_true, Nat.ble_eq]; omega
    rw [this]; simp [h1]

theorem inside_halo {w i x : Nat} (h : 128 ≤ x) : inside w i x = true ↔ i + 144 < x + w := by
  unfold inside
  rw [Nat.ble_eq_true_of_le h]
  simp only [cond_true, Nat.add_eq, Nat.ble_eq]
  omega

/-- The operand of the band product: own rows, halo, and the two again less themselves. -/
def stack (a : Fin 128 → EReal) (h : Fin 16 → EReal) (x : Fin 288) : EReal :=
  if h_1 : x.val < 128 then a ⟨x.val, h_1⟩
  else if h_2 : x.val - 128 < 16 then h ⟨x.val - 128, h_2⟩
  else if h_3 : x.val - 128 - 16 < 128 then a ⟨x.val - 128 - 16, h_3⟩ - a ⟨x.val - 128 - 16, h_3⟩
  else h ⟨x.val - 128 - 16 - 128, by omega⟩ - h ⟨x.val - 128 - 16 - 128, by omega⟩

/-- The sum over the last `w` rows (at most 16) that end at row `16 + r` of the extended tile. -/
def sumLast (E : Fin 528 → EReal) (w : ℕ) (r : Fin 512) : EReal :=
  ∑ d : Fin 16, if d.val < w then E ⟨16 + r.val - d.val, by omega⟩ else 0

/-- The band product is that sum. -/
theorem band_sum (E : Fin 528 → EReal) (hE : ∀ p, Finite (E p)) (w o : ℕ) (hw : w ≤ 16) (ho : o + 128 ≤ 512)
    (bd : Fin 288 → EReal) (i : Fin 128) (hb : ∀ x : Fin 288, x.val < 144 → bd x = if inside w i.val x.val = true then 1 else 0) :
    ∑ x, bd x * stack (fun q => E ⟨16 + o + q.val, by omega⟩) (fun q => E ⟨o + q.val, by omega⟩) x
      = sumLast E w ⟨o + i.val, by omega⟩ := by
  have hs := Fin.sum_univ_add (a := 144) (b := 144) (fun x : Fin (144 + 144) =>
    bd x * stack (fun q => E ⟨16 + o + q.val, by omega⟩) (fun q => E ⟨o + q.val, by omega⟩) x)
  refine hs.trans ?_
  have h2 : ∑ x : Fin 144, bd (Fin.natAdd 144 x)
      * stack (fun q => E ⟨16 + o + q.val, by omega⟩) (fun q => E ⟨o + q.val, by omega⟩) (Fin.natAdd 144 x) = 0 := by
    refine Finset.sum_eq_zero fun x _ => ?_
    have : stack (fun q => E ⟨16 + o + q.val, by omega⟩) (fun q => E ⟨o + q.val, by omega⟩) (Fin.natAdd 144 x) = 0 := by
      unfold stack
      have hx : (Fin.natAdd 144 x).val = 144 + x.val := rfl
      rw [dif_neg (by omega), dif_neg (by omega)]
      split_ifs <;> exact sub_self_of (hE _)
    rw [this, mul_zero]
  rw [h2, add_zero]
  unfold sumLast
  -- both sides as sums over the rows of the extended tile that lie in the window
  have hl : ∑ x : Fin 144, bd (Fin.castAdd 144 x)
      * stack (fun q => E ⟨16 + o + q.val, by omega⟩) (fun q => E ⟨o + q.val, by omega⟩) (Fin.castAdd 144 x)
      = ∑ x ∈ (Finset.univ : Finset (Fin 144)).filter (fun x => inside w i.val x.val = true),
        E ⟨if x.val < 128 then 16 + o + x.val else o + (x.val - 128), by split_ifs <;> omega⟩ := by
    rw [Finset.sum_filter]
    refine Finset.sum_congr rfl fun x _ => ?_
    have hx : (Fin.castAdd 144 x).val = x.val := rfl
    rw [hb _ (by rw [hx]; omega), hx]
    split_ifs with h1 h3
    · rw [one_mul]; unfold stack; rw [dif_pos (by rw [hx]; exact h3)]; rfl
    · rw [one_mul]; unfold stack; rw [dif_neg (by rw [hx]; exact h3), dif_pos (by rw [hx]; omega)]; rfl
    · rw [zero_mul]
  have hr : ∑ d : Fin 16, (if d.val < w then E ⟨16 + (o + i.val) - d.val, by omega⟩ else 0)
      = ∑ d ∈ (Finset.univ : Finset (Fin 16)).filter (fun d => d.val < w), E ⟨16 + (o + i.val) - d.val, by omega⟩ := by
    rw [Finset.sum_filter]
  refine hl.trans (Eq.trans ?_ hr.symm)
  refine Finset.sum_bij' (fun x _ => (⟨(if x.val < 128 then i.val - x.val else i.val + 144 - x.val) % 16, by omega⟩ : Fin 16))
    (fun d _ => (⟨if d.val ≤ i.val then i.val - d.val else i.val + 144 - d.val, by split_ifs <;> omega⟩ : Fin 144)) ?_ ?_ ?_ ?_ ?_
  · intro x hx
    rw [Finset.mem_filter] at hx ⊢
    refine ⟨Finset.mem_univ _, ?_⟩
    by_cases h : x.val < 128
    · have := (inside_own h).1 hx.2
      simp only [h, if_true]
      rw [Nat.mod_eq_of_lt (by omega)]; omega
    · have := (inside_halo (by omega)).1 hx.2
      simp only [h, if_false]
      rw [Nat.mod_eq_of_lt (by omega)]; omega
  · intro d hd
    rw [Finset.mem_filter] at hd ⊢
    refine ⟨Finset.mem_univ _, ?_⟩
    by_cases h : d.val ≤ i.val
    · simp only [h, if_true]
      exact (inside_own (by omega)).2 (by omega)
    · simp only [h, if_false]
      exact (inside_halo (by omega)).2 (by omega)
  · intro x hx
    rw [Finset.mem_filter] at hx
    apply Fin.ext
    by_cases h : x.val < 128
    · have := (inside_own h).1 hx.2
      simp only [h, if_true]
      rw [Nat.mod_eq_of_lt (by omega)]
      split_ifs <;> omega
    · have := (inside_halo (by omega)).1 hx.2
      simp only [h, if_false]
      rw [Nat.mod_eq_of_lt (by omega)]
      split_ifs <;> omega
  · intro d hd
    apply Fin.ext
    by_cases h : d.val ≤ i.val
    · simp only [h, if_true]
      rw [if_pos (by omega)]
      rw [Nat.mod_eq_of_lt (by omega)]; omega
    · simp only [h, if_false]
      rw [if_neg (by omega)]
      rw [Nat.mod_eq_of_lt (by omega)]; omega
  · intro x hx
    rw [Finset.mem_filter] at hx
    refine congrArg E (Fin.ext ?_)
    by_cases h : x.val < 128
    · have := (inside_own h).1 hx.2
      simp only [h, if_true]
      rw [Nat.mod_eq_of_lt (by omega)]; omega
    · have := (inside_halo (by omega)).1 hx.2
      simp only [h, if_false]
      rw [Nat.mod_eq_of_lt (by omega)]; omega

/-- The window's width at column `j`. -/
def width (j : ℕ) : ℕ := 2 ^ (j / 256 + 1)

/-- How many rows of the sequence a window of width `w` ending at row `l` holds. -/
def count (w l : ℕ) : EReal := ((((min (l + 1) w : ℕ) : ℤ) : ℝ) : EReal)

theorem toInt_small (a : ℕ) (ha : a < 4096) : (BitVec.ofNat 32 a).toInt = (a : ℤ) := by
  rw [BitVec.toInt_eq_toNat_of_lt (by rw [BitVec.toNat_ofNat]; omega), BitVec.toNat_ofNat, Nat.mod_eq_of_lt (by omega)]

theorem minsi_small (a b : ℕ) (ha : a < 4096) (hb : b < 4096) :
    (IntOp.minsi (BitVec.ofNat 32 a) (BitVec.ofNat 32 b)).toInt = ((min a b : ℕ) : ℤ) := by
  unfold IntOp.minsi
  rw [BitVec.slt, toInt_small a ha, toInt_small b hb]
  by_cases h : a < b
  · rw [if_pos (by simpa using h), toInt_small a ha, Nat.min_eq_left h.le]
  · rw [if_neg (by simpa using h), toInt_small b hb, Nat.min_eq_right (by omega)]

/-- The word arithmetic of the count: tile `n` of 512 rows, block offset `o`, row `i` of the block. -/
theorem count_word (n : Fin 4) (o w : BitVec 32) (o' w' : ℕ) (ho : o = BitVec.ofNat 32 o') (hw : w = BitVec.ofNat 32 w')
    (ho' : o' ≤ 512) (hw' : w' ≤ 16) (i : Fin 128) :
    (FloatOps.sitofp FTy.f32 (IntOp.minsi (IntOp.addi (IntOp.addi
        (Scalar.addi (Scalar.muli (BitVec.ofNat 32 n.val) 512#32) o) (BitVec.ofNat 32 i.val)) 1#32) w) : Ideal .f32)
      = count w' (n.val * 512 + (o' + i.val)) := by
  subst ho hw
  have e : IntOp.addi (IntOp.addi (Scalar.addi (Scalar.muli (BitVec.ofNat 32 n.val) 512#32) (BitVec.ofNat 32 o'))
      (BitVec.ofNat 32 i.val)) 1#32 = BitVec.ofNat 32 (n.val * 512 + (o' + i.val) + 1) := by
    apply BitVec.eq_of_toNat_eq
    show ((BitVec.ofNat 32 n.val * 512#32 + BitVec.ofNat 32 o') + BitVec.ofNat 32 i.val + 1#32).toNat = _
    simp only [BitVec.toNat_add, BitVec.toNat_mul, BitVec.toNat_ofNat]
    omega
  rw [e]
  have hm := minsi_small (n.val * 512 + (o' + i.val) + 1) w' (by omega) (by omega)
  show (((IntOp.minsi _ _).toInt : ℝ) : EReal) = _
  rw [hm]
  rfl

/-- The pooled entry of row `r`, column `j` of tile `n`: the window's mean less the row itself. -/
def pooled (E : Fin 528 → Fin 1024 → EReal) (n : ℕ) (r : Fin 512) (j : Fin 1024) : EReal :=
  sumLast (fun p => E p j) (width j.val) r * Ideal.div 1 (count (width j.val) (n * 512 + r.val)) - E ⟨16 + r.val, by omega⟩ j

/-- Every group of 256 columns meets its own matrix, and every column its scale. -/
def mix (P : Fin 1024 → EReal) (pw : Fin 4 → Fin 256 → Fin 256 → EReal) (ps : Fin 1024 → EReal) (j : Fin 1024) : EReal :=
  (∑ c : Fin 256, P ⟨256 * (j.val / 256) + c.val, by omega⟩ * pw ⟨j.val / 256, by omega⟩ c ⟨j.val % 256, by omega⟩) * ps j

theorem mix_at (P : Fin 1024 → EReal) (pw : Fin 4 → Fin 256 → Fin 256 → EReal) (ps : Fin 1024 → EReal) (j : Fin 1024)
    (g : Fin 4) (k : Fin 256) (hj : j.val = 256 * g.val + k.val) (f : Fin 256 → EReal) (w : Fin 256 → EReal)
    (hf : ∀ c : Fin 256, f c = P ⟨256 * g.val + c.val, by omega⟩) (hw : ∀ c, w c = pw g c k) :
    (∑ c, f c * w c) * ps j = mix P pw ps j := by
  unfold mix
  have e1 : (⟨j.val / 256, by omega⟩ : Fin 4) = g := Fin.ext (by show j.val / 256 = g.val; omega)
  have e2 : (⟨j.val % 256, by omega⟩ : Fin 256) = k := Fin.ext (by show j.val % 256 = k.val; omega)
  rw [e1, e2]
  refine congrArg (· * ps j) (Finset.sum_congr rfl fun c _ => ?_)
  rw [hf, hw]
  refine congrArg (fun q => P q * pw g c k) (Fin.ext ?_)
  show 256 * g.val + c.val = 256 * (j.val / 256) + c.val
  omega

theorem pooled_congr (E : Fin 528 → Fin 1024 → EReal) (n : ℕ) {r r' : Fin 512} {j j' : Fin 1024} (hr : r.val = r'.val)
    (hj : j.val = j'.val) : pooled E n r j = pooled E n r' j' := by
  obtain rfl : r = r' := Fin.ext hr
  obtain rfl : j = j' := Fin.ext hj
  rfl

end Cert.Window

end
-- ==== Proof.PoolCells.lean ====
/- The mixer of the pooling call's body: its blocks of 128 rows and 256 columns are the window means less the rows
   (`Window.pooled`). -/
module

public import proofs.«01_k».proof.Proof.Gen.Kernel2Ideal.Frame
public import proofs.«01_k».proof.Proof.Window
public import Idealize.ShloMosaic.Lib.Pointwise
public import Idealize.ShloMosaic.Lib.Pipeline.ValueKit

@[expose] public section

set_option maxRecDepth 16384

noncomputable section

open Idealize.ShloMosaic

namespace Cert.PoolMix

open Cert.Kernel2Ideal Cert.Kernel2Ideal.Gen Cert.Window

/-- An extended tile: 16 rows of halo and 512 rows. -/
abbrev Ext := Fin 528 → Fin 1024 → EReal

/-- The four bands the body loads, in the columns that meet the rows themselves. -/
structure Bands (b0 b1 b2 b3 : Vec Ideal S1x128x288 .bf16) : Prop where
  g0 : ∀ (i : Fin 128) (x : Fin 288), x.val < 144 → b0 (ix3 0 i x) = if inside 2 i.val x.val = true then 1 else 0
  g1 : ∀ (i : Fin 128) (x : Fin 288), x.val < 144 → b1 (ix3 0 i x) = if inside 4 i.val x.val = true then 1 else 0
  g2 : ∀ (i : Fin 128) (x : Fin 288), x.val < 144 → b2 (ix3 0 i x) = if inside 8 i.val x.val = true then 1 else 0
  g3 : ∀ (i : Fin 128) (x : Fin 288), x.val < 144 → b3 (ix3 0 i x) = if inside 16 i.val x.val = true then 1 else 0

/-- One block's rows and halo of one column group, as cut from the extended tile at row `o` and column `c`. -/
structure Cut (E : Ext) (o c : ℕ) (ho : o + 128 ≤ 512) (hc : c + 256 ≤ 1024) (a : Vec Ideal S128x256 .f32) (h : Vec Ideal S16x256 .f32) : Prop where
  own : ∀ q k, a (ix2 q k) = E ⟨16 + o + q.val, by omega⟩ ⟨c + k.val, by omega⟩
  halo : ∀ q k, h (ix2 q k) = E ⟨o + q.val, by omega⟩ ⟨c + k.val, by omega⟩

/-- One block's rows and halo of the four column groups. -/
structure Cuts (E : Ext) (o : ℕ) (ho : o + 128 ≤ 512) (a0 a1 a2 a3 : Vec Ideal S128x256 .f32) (h0 h1 h2 h3 : Vec Ideal S16x256 .f32) : Prop where
  c0 : Cut E o 0 ho (by decide) a0 h0
  c1 : Cut E o 256 ho (by decide) a1 h1
  c2 : Cut E o 512 ho (by decide) a2 h2
  c3 : Cut E o 768 ho (by decide) a3 h3

/-- ONE CELL: the band product over the count, less the row, is the pooled entry. -/
theorem cell {E : Ext} (hE : ∀ p j, Finite (E p j)) (n : ℕ) (hn : n < 4) {o c : ℕ} {ho : o + 128 ≤ 512} {hc : c + 256 ≤ 1024}
    {a : Vec Ideal S128x256 .f32} {h : Vec Ideal S16x256 .f32} (hcut : Cut E o c ho hc a h)
    {b : Vec Ideal S1x128x288 .bf16} (w : ℕ) (hw16 : w ≤ 16)
    (hb : ∀ (i : Fin 128) (x : Fin 288), x.val < 144 → b (ix3 0 i x) = if inside w i.val x.val = true then 1 else 0)
    (i : Fin 128) (k : Fin 256) (j : Fin 1024) (hj : j.val = c + k.val) (hw : w = width j.val)
    (q : Fin 512) (hq : q.val = o + i.val) :
    (∑ x : Fin 288, b (ix3 0 i x) * stack (fun q => a (ix2 q k)) (fun q => h (ix2 q k)) x)
        * Ideal.div 1 (FloatOps.sitofp FTy.f32 (IntOp.minsi (IntOp.addi (IntOp.addi
            (Scalar.addi (Scalar.muli (BitVec.ofNat 32 n) 512#32) (BitVec.ofNat 32 o)) (BitVec.ofNat 32 i.val)) 1#32) (BitVec.ofNat 32 w)) : Ideal .f32)
      - a (ix2 i k) = pooled E n q j := by
  have hlt : o + i.val < 512 := by clear hq; omega
  have eq : q = ⟨o + i.val, hlt⟩ := Fin.ext hq
  clear hq
  subst eq
  have ej : (⟨c + k.val, by omega⟩ : Fin 1024) = j := Fin.ext hj.symm
  have e1 : (fun q => a (ix2 q k)) = fun q : Fin 128 => E ⟨16 + o + q.val, by omega⟩ j := by
    funext q; rw [hcut.own, ej]
  have e2 : (fun q => h (ix2 q k)) = fun q : Fin 16 => E ⟨o + q.val, by omega⟩ j := by
    funext q; rw [hcut.halo, ej]
  rw [e1, e2, band_sum (fun p => E p j) (fun p => hE p j) w o hw16 ho (fun x => b (ix3 0 i x)) i (hb i),
    count_word ⟨n, hn⟩ _ _ o w rfl rfl (by omega) hw16 i, hcut.own, ej]
  unfold pooled
  rw [← hw]
  have e3 : (⟨16 + o + i.val, by omega⟩ : Fin 528) = ⟨16 + (⟨o + i.val, by omega⟩ : Fin 512).val, by show 16 + (o + i.val) < 528; omega⟩ :=
    Fin.ext (by show 16 + o + i.val = 16 + (o + i.val); omega)
  rw [e3]

theorem width_at (c w : ℕ) (he : w = 2 ^ (c + 1)) (j : Fin 1024) (h : 256 * c ≤ j.val) (h' : j.val < 256 * c + 256) :
    w = width j.val := by
  unfold width
  rw [he]
  have : j.val / 256 = c := by omega
  rw [this]

section blocks

variable {E : Ext} (hE : ∀ p j, Finite (E p j)) {b0 b1 b2 b3 : Vec Ideal S1x128x288 .bf16} (hB : Bands b0 b1 b2 b3)
  {a0 a1 a2 a3 : Vec Ideal S128x256 .f32} {h0 h1 h2 h3 : Vec Ideal S16x256 .f32} {n : ℕ} (hn : n < 4)
include hE hB hn

set_option maxHeartbeats 2000000 in
/-- The first block of rows. -/
theorem block_0 (i : grid0.Coords) (hi : (i 1).val = n) (hC : Cuts E 0 (by decide) a0 a1 a2 a3 h0 h1 h2 h3) (r : Fin 128) (j : Fin 1024)
    (q : Fin 512) (hq : q.val = 0 + r.val) :
    k0_pay17 (k0_pay11 (k0_pay8 i) a0 (k0_pay9 b0) (k0_pay10 a0 h0)) (k0_pay12 (k0_pay8 i) a1 h1 b1)
        (k0_pay15 (k0_pay8 i) a2 (k0_pay13 a2) (k0_pay14 a2) h2 b2) (k0_pay16 (k0_pay8 i) a3 h3 b3) (ix2 r j)
      = pooled E n q j := by
  subst hi
  pointwise [k0_pay17]
  by_cases q0 : j.val < 256
  · rw [dif_pos q0]
    pointwise [k0_pay11, k0_pay8, k0_pay9, k0_pay10]
    exact cell hE _ hn hC.c0 2 (by decide) hB.g0 r ⟨j.val, q0⟩ j (Nat.zero_add _).symm (width_at 0 2 rfl j (by omega) (by omega)) q hq
  rw [dif_neg q0]
  by_cases q1 : j.val - 256 < 256
  · rw [dif_pos q1]
    pointwise [k0_pay12, k0_pay8]
    exact cell hE _ hn hC.c1 4 (by decide) hB.g1 r ⟨j.val - 256, q1⟩ j (by show j.val = 256 + (j.val - 256); omega) (width_at 1 4 rfl j (by omega) (by omega)) q hq
  rw [dif_neg q1]
  by_cases q2 : j.val - 256 - 256 < 256
  · rw [dif_pos q2]
    pointwise [k0_pay15, k0_pay13, k0_pay14, k0_pay8]
    exact cell hE _ hn hC.c2 8 (by decide) hB.g2 r ⟨j.val - 256 - 256, q2⟩ j (by show j.val = 512 + (j.val - 256 - 256); omega) (width_at 2 8 rfl j (by omega) (by omega)) q hq
  rw [dif_neg q2]
  pointwise [k0_pay16, k0_pay8]
  exact cell hE _ hn hC.c3 16 (by decide) hB.g3 r ⟨j.val - 256 - 256 - 256, by omega⟩ j (by show j.val = 768 + (j.val - 256 - 256 - 256); omega) (width_at 3 16 rfl j (by omega) (by omega)) q hq

set_option maxHeartbeats 2000000 in
/-- The first two blocks of rows. -/
theorem block_1 (hC : Cuts E 128 (by decide) a0 a1 a2 a3 h0 h1 h2 h3) (v : FVec Ideal S128x1024 .f32)
    (hv : ∀ (r : Fin 128) (j : Fin 1024) (q : Fin 512), q.val = 0 + r.val → v (ix2 r j) = pooled E n q j)
    (r : Fin 256) (j : Fin 1024) (q : Fin 512) (hq : q.val = r.val) :
    k0_pay28 v (k0_pay18 (BitVec.ofNat 32 n)) (k0_pay19 (BitVec.ofNat 32 n) a0 h0 b0)
        (k0_pay24 (k0_pay18 (BitVec.ofNat 32 n)) a1 (k0_pay20 a1) (k0_pay21 a1) (k0_pay22 h1) (k0_pay23 h1) b1)
        (k0_pay25 (k0_pay18 (BitVec.ofNat 32 n)) a2 h2 b2) a3 (k0_pay26 a3) (k0_pay27 a3) h3 b3 (ix2 r j)
      = pooled E n q j := by
  pointwise [k0_pay28]
  by_cases hr : r.val < 128
  · rw [dif_pos hr]
    exact hv ⟨r.val, hr⟩ j q (by rw [hq]; exact (Nat.zero_add _).symm)
  rw [dif_neg hr]
  have hq' : q.val = 128 + (r.val - 128) := by omega
  by_cases q0 : j.val < 256
  · rw [dif_pos q0]
    pointwise [k0_pay19, k0_pay18]
    exact cell hE n hn hC.c0 2 (by decide) hB.g0 ⟨r.val - 128, by omega⟩ ⟨j.val, q0⟩ j (Nat.zero_add _).symm (width_at 0 2 rfl j (by omega) (by omega)) q hq'
  rw [dif_neg q0]
  by_cases q1 : j.val - 256 < 256
  · rw [dif_pos q1]
    pointwise [k0_pay24, k0_pay18, k0_pay20, k0_pay21, k0_pay22, k0_pay23]
    exact cell hE n hn hC.c1 4 (by decide) hB.g1 ⟨r.val - 128, by omega⟩ ⟨j.val - 256, q1⟩ j (by show j.val = 256 + (j.val - 256); omega) (width_at 1 4 rfl j (by omega) (by omega)) q hq'
  rw [dif_neg q1]
  by_cases q2 : j.val - 256 - 256 < 256
  · rw [dif_pos q2]
    pointwise [k0_pay25, k0_pay18]
    exact cell hE n hn hC.c2 8 (by decide) hB.g2 ⟨r.val - 128, by omega⟩ ⟨j.val - 256 - 256, q2⟩ j (by show j.val = 512 + (j.val - 256 - 256); omega) (width_at 2 8 rfl j (by omega) (by omega)) q hq'
  rw [dif_neg q2]
  pointwise [k0_pay18, k0_pay26, k0_pay27]
  exact cell hE n hn hC.c3 16 (by decide) hB.g3 ⟨r.val - 128, by omega⟩ ⟨j.val - 256 - 256 - 256, by omega⟩ j (by show j.val = 768 + (j.val - 256 - 256 - 256); omega) (width_at 3 16 rfl j (by omega) (by omega)) q hq'

set_option maxHeartbeats 2000000 in
/-- The third block of rows. -/
theorem block_2 (hC : Cuts E 256 (by decide) a0 a1 a2 a3 h0 h1 h2 h3)
    (r : Fin 128) (j : Fin 1024) (q : Fin 512) (hq : q.val = 256 + r.val) :
    k0_pay41 (k0_pay33 (BitVec.ofNat 32 n)) (k0_pay34 (BitVec.ofNat 32 n) a0 h0 b0)
        (k0_pay37 (k0_pay33 (BitVec.ofNat 32 n)) a1 (k0_pay35 a1) (k0_pay36 a1) h1 b1) a2 (k0_pay38 a2 h2 b2)
        (k0_pay39 (k0_pay33 (BitVec.ofNat 32 n))) k0_pay40 a3 h3 b3 (ix2 r j)
      = pooled E n q j := by
  pointwise [k0_pay41]
  by_cases q0 : j.val < 256
  · rw [dif_pos q0]
    pointwise [k0_pay34, k0_pay33]
    exact cell hE n hn hC.c0 2 (by decide) hB.g0 r ⟨j.val, q0⟩ j (Nat.zero_add _).symm (width_at 0 2 rfl j (by omega) (by omega)) q hq
  rw [dif_neg q0]
  by_cases q1 : j.val - 256 < 256
  · rw [dif_pos q1]
    pointwise [k0_pay37, k0_pay33, k0_pay35, k0_pay36]
    exact cell hE n hn hC.c1 4 (by decide) hB.g1 r ⟨j.val - 256, q1⟩ j (by show j.val = 256 + (j.val - 256); omega) (width_at 1 4 rfl j (by omega) (by omega)) q hq
  rw [dif_neg q1]
  by_cases q2 : j.val - 256 - 256 < 256
  · rw [dif_pos q2]
    pointwise [k0_pay38, k0_pay39, k0_pay40, k0_pay33]
    exact cell hE n hn hC.c2 8 (by decide) hB.g2 r ⟨j.val - 256 - 256, q2⟩ j (by show j.val = 512 + (j.val - 256 - 256); omega) (width_at 2 8 rfl j (by omega) (by omega)) q hq
  rw [dif_neg q2]
  pointwise [k0_pay33]
  exact cell hE n hn hC.c3 16 (by decide) hB.g3 r ⟨j.val - 256 - 256 - 256, by omega⟩ j (by show j.val = 768 + (j.val - 256 - 256 - 256); omega) (width_at 3 16 rfl j (by omega) (by omega)) q hq

set_option maxHeartbeats 2000000 in
/-- The last block of rows, its groups apart. -/
theorem block_3a (hC : Cuts E 384 (by decide) a0 a1 a2 a3 h0 h1 h2 h3) (r : Fin 128) (k : Fin 256) (j : Fin 1024)
    (hj : j.val = 0 + k.val) (q : Fin 512) (hq : q.val = 384 + r.val) :
    k0_pay47 (k0_pay42 (BitVec.ofNat 32 n)) a0 (k0_pay43 a0) (k0_pay44 a0) (k0_pay45 h0) (k0_pay46 h0) b0 (ix2 r k)
      = pooled E n q j := by
  pointwise [k0_pay47, k0_pay42, k0_pay43, k0_pay44, k0_pay45, k0_pay46]
  exact cell hE n hn hC.c0 2 (by decide) hB.g0 r k j hj (width_at 0 2 rfl j (by omega) (by omega)) q hq

theorem block_3b (hC : Cuts E 384 (by decide) a0 a1 a2 a3 h0 h1 h2 h3) (r : Fin 128) (k : Fin 256) (j : Fin 1024)
    (hj : j.val = 256 + k.val) (q : Fin 512) (hq : q.val = 384 + r.val) :
    k0_pay48 (k0_pay42 (BitVec.ofNat 32 n)) a1 h1 b1 (ix2 r k) = pooled E n q j := by
  pointwise [k0_pay48, k0_pay42]
  exact cell hE n hn hC.c1 4 (by decide) hB.g1 r k j hj (width_at 1 4 rfl j (by omega) (by omega)) q hq

theorem block_3c (hC : Cuts E 384 (by decide) a0 a1 a2 a3 h0 h1 h2 h3) (r : Fin 128) (k : Fin 256) (j : Fin 1024)
    (hj : j.val = 512 + k.val) (q : Fin 512) (hq : q.val = 384 + r.val) :
    k0_pay49 (k0_pay42 (BitVec.ofNat 32 n)) a2 h2 b2 (ix2 r k) = pooled E n q j := by
  pointwise [k0_pay49, k0_pay42]
  exact cell hE n hn hC.c2 8 (by decide) hB.g2 r k j hj (width_at 2 8 rfl j (by omega) (by omega)) q hq

set_option maxHeartbeats 2000000 in
theorem block_3d (hC : Cuts E 384 (by decide) a0 a1 a2 a3 h0 h1 h2 h3) (r : Fin 128) (k : Fin 256) (j : Fin 1024)
    (hj : j.val = 768 + k.val) (q : Fin 512) (hq : q.val = 384 + r.val) :
    k0_pay50 a3 h3 b3 (ix2 r k) * Ideal.div 1 (FloatOps.sitofp FTy.f32
        (k0_pay51 (k0_pay42 (BitVec.ofNat 32 n)) (ix2 r 0)) : Ideal .f32) - a3 (ix2 r k)
      = pooled E n q j := by
  pointwise [k0_pay50, k0_pay51, k0_pay42]
  exact cell hE n hn hC.c3 16 (by decide) hB.g3 r k j hj (width_at 3 16 rfl j (by omega) (by omega)) q hq

end blocks

end Cert.PoolMix

end
-- ==== Proof.PoolMix.lean ====
/- The mixer of the pooling call's body, its second step: every group of columns meets its own matrix. -/
module

public import proofs.«01_k».proof.Proof.Gen.Kernel2Ideal.Frame
public import proofs.«01_k».proof.Proof.PoolCells
public import Idealize.ShloMosaic.Lib.Pointwise
public import Idealize.ShloMosaic.Lib.Pipeline.ValueKit

@[expose] public section

set_option maxRecDepth 16384

noncomputable section

open Idealize.ShloMosaic

namespace Cert.PoolMix

open Cert.Kernel2Ideal Cert.Kernel2Ideal.Gen Cert.Window

/-- The four matrices of the column groups, as loaded. -/
structure Weights (pw : Fin 4 → Fin 256 → Fin 256 → EReal) (w0 w1 w2 w3 : Vec Ideal S1x256x256 .bf16) : Prop where
  g0 : ∀ c k, w0 (ix3 0 c k) = pw 0 c k
  g1 : ∀ c k, w1 (ix3 0 c k) = pw 1 c k
  g2 : ∀ c k, w2 (ix3 0 c k) = pw 2 c k
  g3 : ∀ c k, w3 (ix3 0 c k) = pw 3 c k

section mixing

variable {E : Ext} {n : ℕ} {pw : Fin 4 → Fin 256 → Fin 256 → EReal} {w0 w1 w2 w3 : Vec Ideal S1x256x256 .bf16}
  (hW : Weights pw w0 w1 w2 w3)
include hW

set_option maxHeartbeats 2000000 in
/-- The mixer of the lower 256 rows. -/
theorem mix_lower (x5 : Vec Ideal S1x1024 .f32) (v119 : FVec Ideal S128x1024 .f32) (v124 : IVec S128x1 32)
    (v148 v172 v196 : FVec Ideal S128x256 .f32) (v197 : Vec Ideal S128x256 .f32) (v198 v201 : FVec Ideal S128x256 .bf16)
    (v202 : Vec Ideal S16x256 .f32) (v207 : Vec Ideal S1x128x288 .bf16)
    (h : ∀ (r : Fin 256) (j : Fin 1024) (q : Fin 512), q.val = r.val →
      k0_pay28 v119 v124 v148 v172 v196 v197 v198 v201 v202 v207 (ix2 r j) = pooled E n q j)
    (r : Fin 256) (j : Fin 1024) (q : Fin 512) (hq : q.val = r.val) :
    k0_pay32 (k0_pay28 v119 v124 v148 v172 v196 v197 v198 v201 v202 v207) x5
        (k0_pay29 v119 v124 v148 v172 v196 v197 v198 v201 v202 v207 w0)
        (k0_pay30 v119 v124 v148 v172 v196 v197 v198 v201 v202 v207 w1)
        (k0_pay31 v119 v124 v148 v172 v196 v197 v198 v201 v202 v207 w2) w3 (ix2 r j)
      = mix (pooled E n q) pw (fun k => x5 (ix2 0 k)) j := by
  pointwise [k0_pay32]
  by_cases q0 : j.val < 256
  · rw [dif_pos q0]
    pointwise [k0_pay29]
    exact mix_at (pooled E n q) pw (fun k => x5 (ix2 0 k)) j 0 ⟨j.val, q0⟩ (by show j.val = 256 * 0 + j.val; omega) _ _
      (fun c => (h r _ q hq).trans (pooled_congr E n rfl (by show c.val = 256 * 0 + c.val; omega))) (fun c => hW.g0 c _)
  rw [dif_neg q0]
  by_cases q1 : j.val - 256 < 256
  · rw [dif_pos q1]
    pointwise [k0_pay30]
    exact mix_at (pooled E n q) pw (fun k => x5 (ix2 0 k)) j 1 ⟨j.val - 256, q1⟩ (by show j.val = 256 * 1 + (j.val - 256); omega) _ _
      (fun c => (h r _ q hq).trans (pooled_congr E n rfl (by show 256 + c.val = 256 * 1 + c.val; omega))) (fun c => hW.g1 c _)
  rw [dif_neg q1]
  by_cases q2 : j.val - 256 - 256 < 256
  · rw [dif_pos q2]
    pointwise [k0_pay31]
    exact mix_at (pooled E n q) pw (fun k => x5 (ix2 0 k)) j 2 ⟨j.val - 256 - 256, q2⟩ (by show j.val = 256 * 2 + (j.val - 256 - 256); omega) _ _
      (fun c => (h r _ q hq).trans (pooled_congr E n rfl (by show 512 + c.val = 256 * 2 + c.val; omega))) (fun c => hW.g2 c _)
  rw [dif_neg q2]
  exact mix_at (pooled E n q) pw (fun k => x5 (ix2 0 k)) j 3 ⟨j.val - 256 - 256 - 256, by omega⟩ (by show j.val = 256 * 3 + (j.val - 256 - 256 - 256); omega) _ _
    (fun c => (h r _ q hq).trans (pooled_congr E n rfl (by show 768 + c.val = 256 * 3 + c.val; omega))) (fun c => hW.g3 c _)

set_option maxHeartbeats 2000000 in
/-- THE MIXER: every row of the tile. -/
theorem mix_all (x5 : Vec Ideal S1x1024 .f32) (v246 : FVec Ideal S256x1024 .f32) (v348 : FVec Ideal S128x1024 .f32)
    (v377 v401 v425 : FVec Ideal S128x256 .f32) (v426 : Vec Ideal S128x256 .f32) (v439 : FVec Ideal S128x256 .f32) (v443 : IVec S128x1 32)
    (h246 : ∀ (r : Fin 256) (j : Fin 1024) (q : Fin 512), q.val = r.val → v246 (ix2 r j) = mix (pooled E n q) pw (fun k => x5 (ix2 0 k)) j)
    (h348 : ∀ (r : Fin 128) (j : Fin 1024) (q : Fin 512), q.val = 256 + r.val → v348 (ix2 r j) = pooled E n q j)
    (h377 : ∀ (r : Fin 128) (k : Fin 256) (j : Fin 1024), j.val = 0 + k.val → ∀ q : Fin 512, q.val = 384 + r.val → v377 (ix2 r k) = pooled E n q j)
    (h401 : ∀ (r : Fin 128) (k : Fin 256) (j : Fin 1024), j.val = 256 + k.val → ∀ q : Fin 512, q.val = 384 + r.val → v401 (ix2 r k) = pooled E n q j)
    (h425 : ∀ (r : Fin 128) (k : Fin 256) (j : Fin 1024), j.val = 512 + k.val → ∀ q : Fin 512, q.val = 384 + r.val → v425 (ix2 r k) = pooled E n q j)
    (h439 : ∀ (r : Fin 128) (k : Fin 256) (j : Fin 1024), j.val = 768 + k.val → ∀ q : Fin 512, q.val = 384 + r.val →
      v439 (ix2 r k) * Ideal.div 1 (FloatOps.sitofp FTy.f32 (v443 (ix2 r 0)) : Ideal .f32) - v426 (ix2 r k) = pooled E n q j)
    (r : Fin 512) (j : Fin 1024) :
    k0_pay52 v246 v348 v377 v401 v425 v426 v439 v443 x5 w0 w1 w2 w3 (ix2 r j) = mix (pooled E n r) pw (fun k => x5 (ix2 0 k)) j := by
  pointwise [k0_pay52]
  by_cases hr : r.val < 256
  · rw [dif_pos hr]; exact h246 _ j r rfl
  rw [dif_neg hr]
  by_cases q0 : j.val < 256
  · rw [dif_pos q0]
    refine mix_at (pooled E n r) pw (fun k => x5 (ix2 0 k)) j 0 ⟨j.val, q0⟩ (by show j.val = 256 * 0 + j.val; omega) _ _
      (fun c => ?_) (fun c => hW.g0 c _)
    by_cases h1 : r.val - 256 < 128
    · rw [dif_pos h1]
      exact h348 _ _ r (by show r.val = 256 + (r.val - 256); omega) |>.trans (pooled_congr E n rfl (by show c.val = 256 * 0 + c.val; omega))
    · rw [dif_neg h1]
      exact h377 _ _ _ (by show 256 * 0 + c.val = 0 + c.val; omega) r (by show r.val = 384 + (r.val - 256 - 128); omega)
  rw [dif_neg q0]
  by_cases q1 : j.val - 256 < 256
  · rw [dif_pos q1]
    refine mix_at (pooled E n r) pw (fun k => x5 (ix2 0 k)) j 1 ⟨j.val - 256, q1⟩ (by show j.val = 256 * 1 + (j.val - 256); omega) _ _
      (fun c => ?_) (fun c => hW.g1 c _)
    by_cases h1 : r.val - 256 < 128
    · rw [dif_pos h1]
      exact h348 _ _ r (by show r.val = 256 + (r.val - 256); omega) |>.trans (pooled_congr E n rfl (by show 256 + c.val = 256 * 1 + c.val; omega))
    · rw [dif_neg h1]
      exact h401 _ _ _ (by show 256 * 1 + c.val = 256 + c.val; omega) r (by show r.val = 384 + (r.val - 256 - 128); omega)
  rw [dif_neg q1]
  by_cases q2 : j.val - 256 - 256 < 256
  · rw [dif_pos q2]
    refine mix_at (pooled E n r) pw (fun k => x5 (ix2 0 k)) j 2 ⟨j.val - 256 - 256, q2⟩ (by show j.val = 256 * 2 + (j.val - 256 - 256); omega) _ _
      (fun c => ?_) (fun c => hW.g2 c _)
    by_cases h1 : r.val - 256 < 128
    · rw [dif_pos h1]
      exact h348 _ _ r (by show r.val = 256 + (r.val - 256); omega) |>.trans (pooled_congr E n rfl (by show 512 + c.val = 256 * 2 + c.val; omega))
    · rw [dif_neg h1, dif_neg (by omega), dif_neg (by omega), dif_pos (by omega)]
      exact h425 _ _ _ (by show 256 * 2 + c.val = 512 + (512 + c.val - 256 - 256); omega) r (by show r.val = 384 + (r.val - 256 - 128); omega)
  rw [dif_neg q2]
  refine mix_at (pooled E n r) pw (fun k => x5 (ix2 0 k)) j 3 ⟨j.val - 256 - 256 - 256, by omega⟩ (by show j.val = 256 * 3 + (j.val - 256 - 256 - 256); omega) _ _
    (fun c => ?_) (fun c => hW.g3 c _)
  by_cases h1 : r.val - 256 < 128
  · rw [dif_pos h1]
    exact h348 _ _ r (by show r.val = 256 + (r.val - 256); omega) |>.trans (pooled_congr E n rfl (by show 768 + c.val = 256 * 3 + c.val; omega))
  · rw [dif_neg h1, dif_neg (by omega), dif_neg (by omega), dif_neg (by omega)]
    exact h439 ⟨r.val - 256 - 128, by omega⟩ ⟨768 + c.val - 256 - 256 - 256, by omega⟩ _ (by show 256 * 3 + c.val = 768 + (768 + c.val - 256 - 256 - 256); omega) r (by show r.val = 384 + (r.val - 256 - 128); omega)

end mixing

end Cert.PoolMix

end
-- ==== Proof.Sequence.lean ====
/- The pooled rows of a whole sequence, from those of its tiles. -/
module

public import proofs.«01_k».proof.Proof.Window

@[expose] public section

noncomputable section

open Idealize.ShloMosaic

namespace Cert.Window

/-- The pooled entry of row `l` of a whole sequence `u`: the mean over the last rows up to `l`, of which there may be fewer
    than the window holds, less the row itself. -/
def pool (u : Fin 2048 → Fin 1024 → EReal) (l : Fin 2048) (j : Fin 1024) : EReal :=
  (∑ d : Fin 16, if d.val < width j.val ∧ d.val ≤ l.val then u ⟨l.val - d.val, by omega⟩ j else 0)
      * Ideal.div 1 (count (width j.val) l.val) - u l j

/-- A tile with the sixteen rows before it, or zeros where the sequence begins. -/
def extOf (u : Fin 2048 → Fin 1024 → EReal) (n : Fin 4) : Fin 528 → Fin 1024 → EReal := fun p j =>
  if 16 ≤ n.val * 512 + p.val then u ⟨n.val * 512 + p.val - 16, by omega⟩ j else 0

theorem extOf_finite {u : Fin 2048 → Fin 1024 → EReal} (hu : ∀ l j, Finite (u l j)) (n : Fin 4) (p : Fin 528) (j : Fin 1024) :
    Finite (extOf u n p j) := by
  unfold extOf
  split_ifs
  · exact hu _ _
  · exact ⟨EReal.zero_ne_top, EReal.zero_ne_bot⟩

/-- A tile's pooled entry is the sequence's. -/
theorem pooled_extOf (u : Fin 2048 → Fin 1024 → EReal) (n : Fin 4) (r : Fin 512) (j : Fin 1024) :
    pooled (extOf u n) n.val r j = pool u ⟨n.val * 512 + r.val, by omega⟩ j := by
  unfold pooled pool sumLast
  have e1 : extOf u n ⟨16 + r.val, by omega⟩ j = u ⟨n.val * 512 + r.val, by omega⟩ j := by
    unfold extOf
    rw [if_pos (by show 16 ≤ n.val * 512 + (16 + r.val); omega)]
    exact congrArg (fun l => u l j) (Fin.ext (by show n.val * 512 + (16 + r.val) - 16 = n.val * 512 + r.val; omega))
  rw [e1]
  refine congrArg (fun z => z * Ideal.div 1 (count (width j.val) (n.val * 512 + r.val)) - u ⟨n.val * 512 + r.val, by omega⟩ j)
    (Finset.sum_congr rfl fun d _ => ?_)
  by_cases hd : d.val < width j.val
  · rw [if_pos hd]
    by_cases hl : d.val ≤ n.val * 512 + r.val
    · rw [if_pos ⟨hd, hl⟩]
      refine (if_pos (by show 16 ≤ n.val * 512 + (16 + r.val - d.val); omega)).trans ?_
      exact congrArg (fun l => u l j) (Fin.ext (by show n.val * 512 + (16 + r.val - d.val) - 16 = n.val * 512 + r.val - d.val; omega))
    · rw [if_neg (fun h => hl h.2)]
      exact if_neg (by show ¬16 ≤ n.val * 512 + (16 + r.val - d.val); omega)
  · rw [if_neg hd, if_neg (fun h => hd h.1)]

end Cert.Window

end
-- ==== Proof.PoolScratch.lean ====
/- What the pooling call's body reads from its scratch: the tile's rows from row 16 on, the halo before them. -/
module

public import proofs.«01_k».proof.Proof.Gen.Kernel2Ideal.Frame
public import proofs.«01_k».proof.Proof.PoolMix
public import proofs.«01_k».proof.Proof.Sequence
public import Idealize.ShloMosaic.Lib.Pointwise
public import Idealize.ShloMosaic.Lib.Pipeline.ValueKit

@[expose] public section

set_option maxRecDepth 16384

noncomputable section

open Idealize.ShloMosaic

namespace Cert.PoolMix

open Cert.Kernel2Ideal Cert.Kernel2Ideal.Gen Cert.Window

/-- A load that begins at row 16 or below it reads the tile's own rows. -/
theorem load_own (P : FVec Ideal S512x1024 .f32) (L : List (View.Piece (Elt Ideal) S528x1024 .f32)) {n w : ℕ} (a b : ℕ)
    (h' : ∀ x, (![16, 0] : Fin 2 → ℕ) x + (![512, 1024] : Fin 2 → ℕ) x ≤ S528x1024.size x)
    (h : ∀ x, (![a, b] : Fin 2 → ℕ) x + (![n, w] : Fin 2 → ℕ) x ≤ S528x1024.size x) (ha : 16 ≤ a)
    (q : Fin n) (k : Fin w) (hq : a - 16 + q.val < 512) (hk : b + k.val < 1024) :
    (View.whole cc0_scratch0).readCov (Val := Elt Ideal) (s := S528x1024) (e := .f32) (⟨Rect.unit (s := S528x1024) ![16, 0] ![512, 1024] h', P⟩ :: L)
        (Rect.unit (s := S528x1024) ![a, b] ![n, w] h).toLoadRect (ix2 q k : (⟨2, ![n, w]⟩ : Shape).Idx)
      = P (ix2 ⟨a - 16 + q.val, hq⟩ ⟨b + k.val, hk⟩) := by
  refine (congrFun (View.readCov_eq_canon' _ _ _) _).trans ?_
  have e : (Rect.unit (s := S528x1024) ![a, b] ![n, w] h).toLoadRect.idx (ix2 q k : (⟨2, ![n, w]⟩ : Shape).Idx)
      = (Rect.unit (s := S528x1024) ![16, 0] ![512, 1024] h').emb (ix2 ⟨a - 16 + q.val, hq⟩ ⟨b + k.val, hk⟩ : (⟨2, ![512, 1024]⟩ : Shape).Idx) := by
    funext x
    match x with
    | ⟨0, _⟩ => exact Fin.ext (by show a + 1 * q.val = 16 + 1 * (a - 16 + q.val); omega)
    | ⟨1, _⟩ => exact Fin.ext (by show b + 1 * k.val = 0 + 1 * (b + k.val); omega)
  refine (congrArg (View.canon _) e).trans ?_
  exact View.canon_cons_emb _ _ _ _

/-- A load of the first sixteen rows reads the piece that was put there, beneath the tile's. -/
theorem load_halo (P : FVec Ideal S512x1024 .f32) (Q : FVec Ideal S16x1024 .f32) (L : List (View.Piece (Elt Ideal) S528x1024 .f32)) {n w : ℕ} (b : ℕ)
    (h' : ∀ x, (![16, 0] : Fin 2 → ℕ) x + (![512, 1024] : Fin 2 → ℕ) x ≤ S528x1024.size x)
    (h'' : ∀ x, (![0, 0] : Fin 2 → ℕ) x + (![16, 1024] : Fin 2 → ℕ) x ≤ S528x1024.size x)
    (h : ∀ x, (![0, b] : Fin 2 → ℕ) x + (![n, w] : Fin 2 → ℕ) x ≤ S528x1024.size x)
    (q : Fin n) (k : Fin w) (hq : q.val < 16) (hk : b + k.val < 1024) :
    (View.whole cc0_scratch0).readCov (Val := Elt Ideal) (s := S528x1024) (e := .f32) (⟨Rect.unit (s := S528x1024) ![16, 0] ![512, 1024] h', P⟩
          :: ⟨Rect.unit (s := S528x1024) ![0, 0] ![16, 1024] h'', Q⟩ :: L)
        (Rect.unit (s := S528x1024) ![0, b] ![n, w] h).toLoadRect (ix2 q k : (⟨2, ![n, w]⟩ : Shape).Idx)
      = Q (ix2 ⟨q.val, hq⟩ ⟨b + k.val, hk⟩) := by
  refine (congrFun (View.readCov_eq_canon' _ _ _) _).trans ?_
  have e : (Rect.unit (s := S528x1024) ![0, b] ![n, w] h).toLoadRect.idx (ix2 q k : (⟨2, ![n, w]⟩ : Shape).Idx)
      = (Rect.unit (s := S528x1024) ![0, 0] ![16, 1024] h'').emb (ix2 ⟨q.val, hq⟩ ⟨b + k.val, hk⟩ : (⟨2, ![16, 1024]⟩ : Shape).Idx) := by
    funext x
    match x with
    | ⟨0, _⟩ => exact Fin.ext (by show 0 + 1 * q.val = 0 + 1 * q.val; omega)
    | ⟨1, _⟩ => exact Fin.ext (by show b + 1 * k.val = 0 + 1 * (b + k.val); omega)
  refine (congrArg (View.canon _) e).trans ?_
  rw [View.canon_cons_of_not_mem]
  · exact View.canon_cons_emb _ _ _ _
  · intro hm
    obtain ⟨x, hx⟩ := (Rect.unit (s := S528x1024) ![16, 0] ![512, 1024] h').exists_idx_of_mem hm
    have h0 := congrArg (fun i => (i 0).val) hx
    have h1 : 16 + 1 * (x 0).val = 0 + 1 * q.val := h0
    omega

variable (m : (ℓ : Loc nD τ sig) → Buf (Elt Ideal) ℓ) (c : Dev nD) (t : Fin cfg0.N)

/-- WHAT IS CARRIED: after any point, the scratch's first sixteen rows are the tile's last sixteen. -/
theorem carried (q : Fin 16) (j : Fin 1024) : (outsAt0 m c t.val t.isLt).2.2 (ix2 ⟨q.val, by omega⟩ j)
    = k0_pay7 (iblk m c 0 t) (iblk m c 1 t) (ix2 ⟨496 + q.val, by omega⟩ j) := by
  have key : ∀ (h'' : ∀ x, (![0, 0] : Fin 2 → ℕ) x + (![16, 1024] : Fin 2 → ℕ) x ≤ S528x1024.size x)
      (L : List (View.Piece (Elt Ideal) S528x1024 .f32)) (w : FVec Ideal S16x1024 .f32),
      View.canon (⟨Rect.unit (s := S528x1024) ![0, 0] ![16, 1024] h'', (k0_pay2 w : FVec Ideal S16x1024 .f32)⟩ :: L) (ix2 (⟨q.val, by omega⟩ : Fin 528) j) = w (ix2 q j) := by
    intro h'' L w
    have e : (ix2 (⟨q.val, by omega⟩ : Fin 528) j : S528x1024.Idx)
        = (Rect.unit (s := S528x1024) ![0, 0] ![16, 1024] h'').emb (ix2 q j : (⟨2, ![16, 1024]⟩ : Shape).Idx) := by
      funext x
      match x with
      | ⟨0, _⟩ => exact Fin.ext (by show q.val = 0 + 1 * q.val; omega)
      | ⟨1, _⟩ => exact Fin.ext (by show j.val = 0 + 1 * j.val; omega)
    rw [e, View.canon_cons_emb]
    pointwise [k0_pay2]
  have own := fun L h' h => load_own (k0_pay7 (iblk m c 0 t) (iblk m c 1 t)) L 512 0 h' h (by decide) q j (by omega) (by omega)
  have ej : (⟨0 + j.val, by omega⟩ : Fin 1024) = j := Fin.ext (Nat.zero_add _)
  simp only [ej] at own
  by_cases h0 : t.val % 4 = 0
  · rw [outsAt0_A m c t h0 (by omega)]
    frame_out
    exact (key _ _ _).trans (own _ _ _)
  by_cases h1 : t.val % 4 = 3
  · rw [outsAt0_C m c t h0 h1]
    frame_out
    exact (key _ _ _).trans (own _ _ _)
  rw [outsAt0_B m c t h0 h1]
  frame_out
  exact (key _ _ _).trans (own _ _ _)

end Cert.PoolMix

end
-- ==== Proof.PoolTail.lean ====
/- The second half of the pooling call's body, from the mixer's output `h` (a block of 512 rows) on: entry (0, r, j) of
   what it stores is entry `j` of the layer's tail (`Rows.mid`, `Rows.last`) of row `r`. The body works on the rows below
   256 and on the others apart, and sums the feed-forward block's hidden units in two pieces. -/
module

public import proofs.«01_k».proof.Proof.Gen.Kernel2Ideal.Frame
public import proofs.«01_k».proof.Proof.Rows
public import Idealize.ShloMosaic.Lib.Pointwise
public import Idealize.ShloMosaic.Lib.Pipeline.ValueKit

@[expose] public section

set_option maxRecDepth 16384

noncomputable section

open Idealize.ShloMosaic

namespace Cert.PoolTail

open Cert.Kernel2Ideal Cert.Kernel2Ideal.Gen Cert.Rows

/-- A row of a block with 256 rows. -/
abbrev row (a : FVec Ideal S256x1024 .f32) (r : Fin 256) : Row := fun k => a (ix2 r k)

/-- The one row of a block with a single row. -/
abbrev row1 (a : FVec Ideal S1x1024 .f32) : Row := fun k => a (ix2 0 k)

/-- The pieces in which the body loads the two matrices: gate and other half of the widening one, below hidden unit 1536
    and from there on, and the narrowing one's rows likewise. -/
structure Pieces (wu : Fin 1024 → Fin 5632 → EReal) (wd : Fin 2816 → Fin 1024 → EReal)
    (a0 a1 : Vec Ideal S1x1024x1536 .bf16) (d0 : Vec Ideal S1x1536x1024 .bf16)
    (a2 a3 : Vec Ideal S1x1024x1280 .bf16) (d1 : Vec Ideal S1x1280x1024 .bf16) : Prop where
  h0 : ∀ k q, a0 (ix3 0 k q) = wu k ⟨q.val, by omega⟩
  h1 : ∀ k q, a1 (ix3 0 k q) = wu k ⟨2816 + q.val, by omega⟩
  h2 : ∀ k q, a2 (ix3 0 k q) = wu k ⟨1536 + q.val, by omega⟩
  h3 : ∀ k q, a3 (ix3 0 k q) = wu k ⟨4352 + q.val, by omega⟩
  e0 : ∀ q j, d0 (ix3 0 q j) = wd ⟨q.val, by omega⟩ j
  e1 : ∀ q j, d1 (ix3 0 q j) = wd ⟨1536 + q.val, by omega⟩ j

variable {wu : Fin 1024 → Fin 5632 → EReal} {wd : Fin 2816 → Fin 1024 → EReal}
  {a0 a1 : Vec Ideal S1x1024x1536 .bf16} {d0 : Vec Ideal S1x1536x1024 .bf16}
  {a2 a3 : Vec Ideal S1x1024x1280 .bf16} {d1 : Vec Ideal S1x1280x1024 .bf16}

/-- The feed-forward sum of a lower row, in its two pieces. -/
theorem ffn_lower (hp : Pieces wu wd a0 a1 d0 a2 a3 d1) (s t : FVec Ideal S1x1024 .f32) (z : FVec Ideal S256x1024 .f32)
    (r : Fin 256) (j : Fin 1024) :
    k0_pay69 (k0_pay68 s t z a0 a1) d0 (ix2 r j) + k0_pay71 (k0_pay64 s t z) a2 a3 d1 (ix2 r j)
      = ffn (fun k => row z r k * (1 + row1 t k) + row1 s k) wu wd j := by
  rw [ffn_two]
  pointwise [k0_pay69, k0_pay68, k0_pay71, k0_pay64]
  simp only [hp.h0, hp.h1, hp.h2, hp.h3, hp.e0, hp.e1]
  rfl

/-- The row of the upper half that enters the feed-forward block is made of the normed row. -/
theorem ffn_upper (hp : Pieces wu wd a0 a1 d0 a2 a3 d1) (s t g b : FVec Ideal S1x1024 .f32)
    (v : FVec Ideal S256x1024 .f32) (w : FVec Ideal S256x1 .f32) (r : Fin 256) (j : Fin 1024) :
    k0_pay70 (k0_pay66 s t g b v w a0) (k0_pay67 s t g b v w a1) d0 (ix2 r j)
        + ∑ q : Fin 1280, k0_pay72 (k0_pay65 s t g b v w) a2 a3 (ix2 r q) * d1 (ix3 0 q j)
      = ffn (fun k => row (k0_pay63 g b v w) r k * (1 + row1 t k) + row1 s k) wu wd j := by
  rw [ffn_two]
  pointwise [k0_pay70, k0_pay66, k0_pay67, k0_pay72, k0_pay65, k0_pay63]
  simp only [hp.h0, hp.h1, hp.h2, hp.h3, hp.e0, hp.e1]
  rfl

/-- The last norm of a lower row. -/
theorem last_lower (v : FVec Ideal S4x1024 .f32) (ga : FVec Ideal S1x1024 .f32) (z f1 f2 : FVec Ideal S256x1024 .f32)
    (r : Fin 256) (j : Fin 1024) :
    k0_pay73 v ga z f1 f2 (ix2 r j)
      = norm (fun k => alpha * row z r k + row1 ga k * (f1 (ix2 r k) + f2 (ix2 r k)))
          (fun k => v (ix2 2 k)) (fun k => v (ix2 3 k)) j := by
  pointwise [k0_pay73]
  rfl

/-- What the body stores from a lower half already normed and the pieces of the upper one's norm. -/
theorem store_lower (s : FVec Ideal S256x1024 .f32) (g b : FVec Ideal S1x1024 .f32) (v : FVec Ideal S256x1024 .f32)
    (w : FVec Ideal S256 .f32) (r : Fin 512) (h : r.val < 256) (j : Fin 1024) :
    k0_pay1 s g b v w (ix3 0 r j) = s (ix2 ⟨r.val, h⟩ j) := by
  pointwise [k0_pay1]
  rw [dif_pos h]

/-- The same at a row of the upper half: its norm is completed. -/
theorem store_upper (s : FVec Ideal S256x1024 .f32) (g b ga : FVec Ideal S1x1024 .f32) (z f : FVec Ideal S256x1024 .f32)
    (w : FVec Ideal S256x1280 .bf16) (r : Fin 512) (h : ¬r.val < 256) (j : Fin 1024) :
    k0_pay1 s g b (k0_pay76 ga z f w d1) (k0_pay77 ga z f w d1) (ix3 0 r j)
      = norm (fun k => alpha * row z ⟨r.val - 256, by omega⟩ k + row1 ga k
            * (f (ix2 ⟨r.val - 256, by omega⟩ k) + ∑ q : Fin 1280, w (ix2 ⟨r.val - 256, by omega⟩ q) * d1 (ix3 0 q k)))
          (row1 g) (row1 b) j := by
  pointwise [k0_pay1, k0_pay76, k0_pay77]
  rw [dif_neg h]
  rfl

section block

variable (x0 : Vec Ideal S1x512x1024 .f32) (x1 : Vec Ideal S1x1x6144 .f32) (x2 : Vec Ideal S4x1024 .f32)
  (h : FVec Ideal S512x1024 .f32)

/-- Row `r` after the first norm. -/
abbrev midRow (r : Fin 512) : Row :=
  mid (fun k => x0 (ix3 0 r k)) (fun k => h (ix2 r k)) (fun q => x1 (ix3 0 0 q)) (fun k => x2 (ix2 0 k)) (fun k => x2 (ix2 1 k))

/-- The normed rows of the lower half. -/
abbrev lower : FVec Ideal S256x1024 .f32 := k0_pay58 (k0_pay5 x0) h (k0_pay53 x2) (k0_pay54 (k0_pay6 x1))

/-- The centred rows of the upper half. -/
abbrev centred : FVec Ideal S256x1024 .f32 := k0_pay61 (k0_pay5 x0) h (k0_pay54 (k0_pay6 x1))

/-- Their mean squares. -/
abbrev spread : FVec Ideal S256x1 .f32 := k0_pay62 (k0_pay5 x0) h (k0_pay54 (k0_pay6 x1))

theorem mid_lower (r : Fin 256) : row (lower x0 x1 x2 h) r = midRow x0 x1 x2 h ⟨r.val, by omega⟩ := by
  funext j
  pointwise [lower, k0_pay58, k0_pay5, k0_pay53, k0_pay54, k0_pay6]
  rfl

theorem mid_upper (r : Fin 256) :
    row (k0_pay63 (k0_pay59 (k0_pay53 x2)) (k0_pay60 (k0_pay53 x2)) (centred x0 x1 h) (spread x0 x1 h)) r
      = midRow x0 x1 x2 h ⟨256 + r.val, by omega⟩ := by
  funext j
  pointwise [k0_pay63, k0_pay59, k0_pay60, centred, spread, k0_pay62, k0_pay61, k0_pay5, k0_pay53, k0_pay54, k0_pay6]
  rfl

theorem shift_row : row1 (k0_pay55 (k0_pay6 x1)) = part (fun q => x1 (ix3 0 0 q)) 3072 (by decide) := by
  funext k; pointwise [k0_pay55, k0_pay6]; rfl

theorem scale_row : row1 (k0_pay56 (k0_pay6 x1)) = part (fun q => x1 (ix3 0 0 q)) 4096 (by decide) := by
  funext k; pointwise [k0_pay56, k0_pay6]; rfl

theorem gate_row : row1 (k0_pay57 (k0_pay6 x1)) = part (fun q => x1 (ix3 0 0 q)) 5120 (by decide) := by
  funext k; pointwise [k0_pay57, k0_pay6]; rfl

/-- THE STORE: what the body stores, row by row, whatever the mixer's output. -/
theorem out_apply (hp : Pieces wu wd a0 a1 d0 a2 a3 d1) (r : Fin 512) (j : Fin 1024) :
    k0_pay1
        (k0_pay73 (k0_pay53 x2) (k0_pay57 (k0_pay6 x1)) (lower x0 x1 x2 h)
          (k0_pay69 (k0_pay68 (k0_pay55 (k0_pay6 x1)) (k0_pay56 (k0_pay6 x1)) (lower x0 x1 x2 h) a0 a1) d0)
          (k0_pay71 (k0_pay64 (k0_pay55 (k0_pay6 x1)) (k0_pay56 (k0_pay6 x1)) (lower x0 x1 x2 h)) a2 a3 d1))
        (k0_pay74 (k0_pay53 x2)) (k0_pay75 (k0_pay53 x2))
        (k0_pay76 (k0_pay57 (k0_pay6 x1))
          (k0_pay63 (k0_pay59 (k0_pay53 x2)) (k0_pay60 (k0_pay53 x2)) (centred x0 x1 h) (spread x0 x1 h))
          (k0_pay70
            (k0_pay66 (k0_pay55 (k0_pay6 x1)) (k0_pay56 (k0_pay6 x1)) (k0_pay59 (k0_pay53 x2)) (k0_pay60 (k0_pay53 x2))
              (centred x0 x1 h) (spread x0 x1 h) a0)
            (k0_pay67 (k0_pay55 (k0_pay6 x1)) (k0_pay56 (k0_pay6 x1)) (k0_pay59 (k0_pay53 x2)) (k0_pay60 (k0_pay53 x2))
              (centred x0 x1 h) (spread x0 x1 h) a1) d0)
          (k0_pay72
            (k0_pay65 (k0_pay55 (k0_pay6 x1)) (k0_pay56 (k0_pay6 x1)) (k0_pay59 (k0_pay53 x2)) (k0_pay60 (k0_pay53 x2))
              (centred x0 x1 h) (spread x0 x1 h)) a2 a3) d1)
        (k0_pay77 (k0_pay57 (k0_pay6 x1))
          (k0_pay63 (k0_pay59 (k0_pay53 x2)) (k0_pay60 (k0_pay53 x2)) (centred x0 x1 h) (spread x0 x1 h))
          (k0_pay70
            (k0_pay66 (k0_pay55 (k0_pay6 x1)) (k0_pay56 (k0_pay6 x1)) (k0_pay59 (k0_pay53 x2)) (k0_pay60 (k0_pay53 x2))
              (centred x0 x1 h) (spread x0 x1 h) a0)
            (k0_pay67 (k0_pay55 (k0_pay6 x1)) (k0_pay56 (k0_pay6 x1)) (k0_pay59 (k0_pay53 x2)) (k0_pay60 (k0_pay53 x2))
              (centred x0 x1 h) (spread x0 x1 h) a1) d0)
          (k0_pay72
            (k0_pay65 (k0_pay55 (k0_pay6 x1)) (k0_pay56 (k0_pay6 x1)) (k0_pay59 (k0_pay53 x2)) (k0_pay60 (k0_pay53 x2))
              (centred x0 x1 h) (spread x0 x1 h)) a2 a3) d1)
        (ix3 0 r j)
      = last (midRow x0 x1 x2 h r) (fun q => x1 (ix3 0 0 q)) (fun k => x2 (ix2 2 k)) (fun k => x2 (ix2 3 k)) wu wd j := by
  by_cases hr : r.val < 256
  · rw [store_lower _ _ _ _ _ r hr, last_lower]
    simp only [ffn_lower hp]
    rw [mid_lower, shift_row, scale_row, gate_row]
    have e1 : (fun k => k0_pay53 x2 (ix2 2 k)) = fun k => x2 (ix2 2 k) := by funext k; pointwise [k0_pay53]
    have e2 : (fun k => k0_pay53 x2 (ix2 3 k)) = fun k => x2 (ix2 3 k) := by funext k; pointwise [k0_pay53]
    rw [e1, e2]
    rfl
  · rw [store_upper _ _ _ _ _ _ _ r hr]
    simp only [ffn_upper hp]
    rw [mid_upper, shift_row, scale_row, gate_row]
    have e1 : row1 (k0_pay74 (k0_pay53 x2)) = fun k => x2 (ix2 2 k) := by funext k; pointwise [k0_pay74, k0_pay53]
    have e2 : row1 (k0_pay75 (k0_pay53 x2)) = fun k => x2 (ix2 3 k) := by funext k; pointwise [k0_pay75, k0_pay53]
    have er : (⟨256 + (r.val - 256), by omega⟩ : Fin 512) = r := Fin.ext (by show 256 + (r.val - 256) = r.val; omega)
    rw [e1, e2]
    exact congrArg (fun i => last (midRow x0 x1 x2 h i) _ _ _ _ _ j) er

end block

end Cert.PoolTail

end
-- ==== Proof.PoolBlock.lean ====
/- The pooling call's mixer from what the body loads: the four blocks of 128 rows, each with its halo, cut from the tile
   as it stands in the scratch. -/
module

public import proofs.«01_k».proof.Proof.PoolScratch
public import proofs.«01_k».proof.Proof.PoolTail

@[expose] public section

set_option maxRecDepth 16384

noncomputable section

open Idealize.ShloMosaic

namespace Cert.PoolMix

open Cert.Kernel2Ideal Cert.Kernel2Ideal.Gen Cert.Window Cert.Rows

theorem fits0 : 0 + 128 ≤ 512 := by decide
theorem fits1 : 128 + 128 ≤ 512 := by decide
theorem fits2 : 256 + 128 ≤ 512 := by decide
theorem fits3 : 384 + 128 ≤ 512 := by decide

/-- A load of a box of a stack, at an index. -/
theorem load_stack {e : EltTy} {A B C : ℕ} (X : Vec Ideal ⟨3, ![A, B, C]⟩ e) {n0 n1 n2 : ℕ} (o0 o1 o2 : ℕ)
    (h : ∀ x, (![o0, o1, o2] : Fin 3 → ℕ) x + (![n0, n1, n2] : Fin 3 → ℕ) x ≤ (⟨3, ![A, B, C]⟩ : Shape).size x)
    (i : Fin n0) (j : Fin n1) (k : Fin n2) (i' : Fin A) (j' : Fin B) (k' : Fin C)
    (hi : i'.val = o0 + i.val) (hj : j'.val = o1 + j.val) (hk : k'.val = o2 + k.val) :
    View.ld X (Rect.unit (s := ⟨3, ![A, B, C]⟩) ![o0, o1, o2] ![n0, n1, n2] h) (ix3 i j k : (⟨3, ![n0, n1, n2]⟩ : Shape).Idx)
      = X (ix3 i' j' k') := by
  refine View.ld_unit_apply_of (Val := Elt Ideal) (S := ⟨3, ![A, B, C]⟩) X _ _ h _ _ fun a => ?_
  match a with
  | ⟨0, _⟩ => exact hi
  | ⟨1, _⟩ => exact hj
  | ⟨2, _⟩ => exact hk

theorem own_lt (r : Fin 512) : 16 + r.val < 528 := by omega

section cuts

variable {P : FVec Ideal S512x1024 .f32} {L : List (View.Piece (Elt Ideal) S528x1024 .f32)} {E : Ext}
  (hP : ∀ (r : Fin 512) (j : Fin 1024), P (ix2 r j) = E ⟨16 + r.val, own_lt r⟩ j)
include hP

/-- A block's own rows. -/
theorem cut_own {o c : ℕ} (ho : o + 128 ≤ 512) (hc : c + 256 ≤ 1024) (a : ℕ) (ha : a = 16 + o)
    (h' : ∀ x, (![16, 0] : Fin 2 → ℕ) x + (![512, 1024] : Fin 2 → ℕ) x ≤ S528x1024.size x)
    (h : ∀ x, (![a, c] : Fin 2 → ℕ) x + (![128, 256] : Fin 2 → ℕ) x ≤ S528x1024.size x) (q : Fin 128) (k : Fin 256) :
    (View.whole cc0_scratch0).readCov (Val := Elt Ideal) (s := S528x1024) (e := .f32) (⟨Rect.unit (s := S528x1024) ![16, 0] ![512, 1024] h', P⟩ :: L)
        (Rect.unit (s := S528x1024) ![a, c] ![128, 256] h).toLoadRect (ix2 q k : (⟨2, ![128, 256]⟩ : Shape).Idx)
      = E ⟨16 + o + q.val, by omega⟩ ⟨c + k.val, by omega⟩ := by
  refine (load_own P L a c h' h (by omega) q k (by omega) (by omega)).trans ((hP _ _).trans ?_)
  exact congrArg (fun p => E p _) (Fin.ext (by show 16 + (a - 16 + q.val) = 16 + o + q.val; omega))

/-- A block that is not the first takes its halo from the tile. -/
theorem cut_upper {o c : ℕ} (ho : o + 128 ≤ 512) (hc : c + 256 ≤ 1024) (h16 : 16 ≤ o) (a : ℕ) (ha : a = 16 + o)
    (h' : ∀ x, (![16, 0] : Fin 2 → ℕ) x + (![512, 1024] : Fin 2 → ℕ) x ≤ S528x1024.size x)
    (h1 : ∀ x, (![a, c] : Fin 2 → ℕ) x + (![128, 256] : Fin 2 → ℕ) x ≤ S528x1024.size x)
    (h2 : ∀ x, (![o, c] : Fin 2 → ℕ) x + (![16, 256] : Fin 2 → ℕ) x ≤ S528x1024.size x) :
    Cut E o c ho hc
      ((View.whole cc0_scratch0).readCov (Val := Elt Ideal) (s := S528x1024) (e := .f32) (⟨Rect.unit (s := S528x1024) ![16, 0] ![512, 1024] h', P⟩ :: L)
        (Rect.unit (s := S528x1024) ![a, c] ![128, 256] h1).toLoadRect)
      ((View.whole cc0_scratch0).readCov (Val := Elt Ideal) (s := S528x1024) (e := .f32) (⟨Rect.unit (s := S528x1024) ![16, 0] ![512, 1024] h', P⟩ :: L)
        (Rect.unit (s := S528x1024) ![o, c] ![16, 256] h2).toLoadRect) where
  own := fun q k => cut_own hP ho hc a ha h' h1 q k
  halo := fun q k => by
    refine (load_own P L o c h' h2 h16 q k (by omega) (by omega)).trans ((hP _ _).trans ?_)
    exact congrArg (fun p => E p _) (Fin.ext (by show 16 + (o - 16 + q.val) = o + q.val; omega))

/-- The first block's halo is given. -/
theorem cut_first {c : ℕ} (hc : c + 256 ≤ 1024)
    (h' : ∀ x, (![16, 0] : Fin 2 → ℕ) x + (![512, 1024] : Fin 2 → ℕ) x ≤ S528x1024.size x)
    (h1 : ∀ x, (![16, c] : Fin 2 → ℕ) x + (![128, 256] : Fin 2 → ℕ) x ≤ S528x1024.size x) (H : Vec Ideal S16x256 .f32)
    (hH : ∀ q k, H (ix2 q k) = E ⟨q.val, by omega⟩ ⟨c + k.val, by omega⟩) :
    Cut E 0 c fits0 hc
      ((View.whole cc0_scratch0).readCov (Val := Elt Ideal) (s := S528x1024) (e := .f32) (⟨Rect.unit (s := S528x1024) ![16, 0] ![512, 1024] h', P⟩ :: L)
        (Rect.unit (s := S528x1024) ![16, c] ![128, 256] h1).toLoadRect) H where
  own := fun q k => cut_own hP (by decide) hc 16 rfl h' h1 q k
  halo := fun q k => (hH q k).trans (congrArg (fun p => E p _) (Fin.ext (Nat.zero_add _).symm))

end cuts

section mixer

variable {E : Ext} {b0 b1 b2 b3 : Vec Ideal S1x128x288 .bf16}
  {pw : Fin 4 → Fin 256 → Fin 256 → EReal} {w0 w1 w2 w3 : Vec Ideal S1x256x256 .bf16}
  {a00 a01 a02 a03 a10 a11 a12 a13 a20 a21 a22 a23 a30 a31 a32 a33 : Vec Ideal S128x256 .f32}
  {h00 h01 h02 h03 h10 h11 h12 h13 h20 h21 h22 h23 h30 h31 h32 h33 : Vec Ideal S16x256 .f32}

set_option maxHeartbeats 2000000 in
/-- The body's mixer, from the blocks as it loads them. -/
theorem mixer (hE : ∀ p j, Finite (E p j)) (hB : Bands b0 b1 b2 b3) (hW : Weights pw w0 w1 w2 w3) (i : grid0.Coords) (hn : (i 1).val < 4) (C0 : Cuts E 0 fits0 a00 a01 a02 a03 h00 h01 h02 h03)
    (C1 : Cuts E 128 fits1 a10 a11 a12 a13 h10 h11 h12 h13) (C2 : Cuts E 256 fits2 a20 a21 a22 a23 h20 h21 h22 h23)
    (C3 : Cuts E 384 fits3 a30 a31 a32 a33 h30 h31 h32 h33) (x5 : Vec Ideal S1x1024 .f32) (r : Fin 512) (j : Fin 1024) :
    k0_pay52
        (k0_pay32
          (k0_pay28
            (k0_pay17 (k0_pay11 (k0_pay8 i) a00 (k0_pay9 b0) (k0_pay10 a00 h00)) (k0_pay12 (k0_pay8 i) a01 h01 b1)
              (k0_pay15 (k0_pay8 i) a02 (k0_pay13 a02) (k0_pay14 a02) h02 b2) (k0_pay16 (k0_pay8 i) a03 h03 b3))
            (k0_pay18 (BitVec.ofNat 32 (i 1))) (k0_pay19 (BitVec.ofNat 32 (i 1)) a10 h10 b0)
            (k0_pay24 (k0_pay18 (BitVec.ofNat 32 (i 1))) a11 (k0_pay20 a11) (k0_pay21 a11) (k0_pay22 h11) (k0_pay23 h11) b1)
            (k0_pay25 (k0_pay18 (BitVec.ofNat 32 (i 1))) a12 h12 b2) a13 (k0_pay26 a13) (k0_pay27 a13) h13 b3) x5
          (k0_pay29
            (k0_pay17 (k0_pay11 (k0_pay8 i) a00 (k0_pay9 b0) (k0_pay10 a00 h00)) (k0_pay12 (k0_pay8 i) a01 h01 b1)
              (k0_pay15 (k0_pay8 i) a02 (k0_pay13 a02) (k0_pay14 a02) h02 b2) (k0_pay16 (k0_pay8 i) a03 h03 b3))
            (k0_pay18 (BitVec.ofNat 32 (i 1))) (k0_pay19 (BitVec.ofNat 32 (i 1)) a10 h10 b0)
            (k0_pay24 (k0_pay18 (BitVec.ofNat 32 (i 1))) a11 (k0_pay20 a11) (k0_pay21 a11) (k0_pay22 h11) (k0_pay23 h11) b1)
            (k0_pay25 (k0_pay18 (BitVec.ofNat 32 (i 1))) a12 h12 b2) a13 (k0_pay26 a13) (k0_pay27 a13) h13 b3 w0)
          (k0_pay30
            (k0_pay17 (k0_pay11 (k0_pay8 i) a00 (k0_pay9 b0) (k0_pay10 a00 h00)) (k0_pay12 (k0_pay8 i) a01 h01 b1)
              (k0_pay15 (k0_pay8 i) a02 (k0_pay13 a02) (k0_pay14 a02) h02 b2) (k0_pay16 (k0_pay8 i) a03 h03 b3))
            (k0_pay18 (BitVec.ofNat 32 (i 1))) (k0_pay19 (BitVec.ofNat 32 (i 1)) a10 h10 b0)
            (k0_pay24 (k0_pay18 (BitVec.ofNat 32 (i 1))) a11 (k0_pay20 a11) (k0_pay21 a11) (k0_pay22 h11) (k0_pay23 h11) b1)
            (k0_pay25 (k0_pay18 (BitVec.ofNat 32 (i 1))) a12 h12 b2) a13 (k0_pay26 a13) (k0_pay27 a13) h13 b3 w1)
          (k0_pay31
            (k0_pay17 (k0_pay11 (k0_pay8 i) a00 (k0_pay9 b0) (k0_pay10 a00 h00)) (k0_pay12 (k0_pay8 i) a01 h01 b1)
              (k0_pay15 (k0_pay8 i) a02 (k0_pay13 a02) (k0_pay14 a02) h02 b2) (k0_pay16 (k0_pay8 i) a03 h03 b3))
            (k0_pay18 (BitVec.ofNat 32 (i 1))) (k0_pay19 (BitVec.ofNat 32 (i 1)) a10 h10 b0)
            (k0_pay24 (k0_pay18 (BitVec.ofNat 32 (i 1))) a11 (k0_pay20 a11) (k0_pay21 a11) (k0_pay22 h11) (k0_pay23 h11) b1)
            (k0_pay25 (k0_pay18 (BitVec.ofNat 32 (i 1))) a12 h12 b2) a13 (k0_pay26 a13) (k0_pay27 a13) h13 b3 w2) w3)
        (k0_pay41 (k0_pay33 (BitVec.ofNat 32 (i 1))) (k0_pay34 (BitVec.ofNat 32 (i 1)) a20 h20 b0)
          (k0_pay37 (k0_pay33 (BitVec.ofNat 32 (i 1))) a21 (k0_pay35 a21) (k0_pay36 a21) h21 b1) a22 (k0_pay38 a22 h22 b2)
          (k0_pay39 (k0_pay33 (BitVec.ofNat 32 (i 1)))) k0_pay40 a23 h23 b3)
        (k0_pay47 (k0_pay42 (BitVec.ofNat 32 (i 1))) a30 (k0_pay43 a30) (k0_pay44 a30) (k0_pay45 h30) (k0_pay46 h30) b0)
        (k0_pay48 (k0_pay42 (BitVec.ofNat 32 (i 1))) a31 h31 b1) (k0_pay49 (k0_pay42 (BitVec.ofNat 32 (i 1))) a32 h32 b2)
        a33 (k0_pay50 a33 h33 b3) (k0_pay51 (k0_pay42 (BitVec.ofNat 32 (i 1)))) x5 w0 w1 w2 w3 (ix2 r j)
      = mix (pooled E (i 1).val r) pw (fun k => x5 (ix2 0 k)) j :=
  mix_all hW x5 _ _ _ _ _ _ _ _
    (fun r j q hq => mix_lower hW x5 _ _ _ _ _ _ _ _ _ _
      (fun r j q hq => block_1 hE hB hn C1 _ (fun r j q hq => block_0 hE hB hn i rfl C0 r j q hq) r j q hq) r j q hq)
    (fun r j q hq => block_2 hE hB hn C2 r j q hq)
    (fun r k j hj q hq => block_3a hE hB hn C3 r k j hj q hq) (fun r k j hj q hq => block_3b hE hB hn C3 r k j hj q hq)
    (fun r k j hj q hq => block_3c hE hB hn C3 r k j hj q hq) (fun r k j hj q hq => block_3d hE hB hn C3 r k j hj q hq) r j

end mixer

/-- The first norm's row, the mixer's output being known. -/
theorem midRow_of (x0 : Vec Ideal S1x512x1024 .f32) (x1 : Vec Ideal S1x1x6144 .f32) (x2 : Vec Ideal S4x1024 .f32)
    (h : FVec Ideal S512x1024 .f32) (r : Fin 512) (X : Row) (hX : ∀ k, h (ix2 r k) = X k) :
    PoolTail.midRow x0 x1 x2 h r
      = mid (fun k => x0 (ix3 0 r k)) X (fun q => x1 (ix3 0 0 q)) (fun k => x2 (ix2 0 k)) (fun k => x2 (ix2 1 k)) := by
  obtain rfl : (fun k => h (ix2 r k)) = X := funext hX
  rfl

/-- The tile's rows as the mixer takes them: scaled and shifted. -/
theorem entered (x0 : Vec Ideal S1x512x1024 .f32) (x1 : Vec Ideal S1x1x6144 .f32) (r : Fin 512) (j : Fin 1024) :
    k0_pay7 x0 x1 (ix2 r j)
      = x0 (ix3 0 r j) * (1 + x1 (ix3 0 0 ⟨1024 + j.val, by omega⟩)) + x1 (ix3 0 0 ⟨j.val, by omega⟩) := by
  pointwise [k0_pay7, k0_pay5, k0_pay6]

/-- Before a sequence's first tile stand zeros. -/
theorem nothing (q : Fin 16) (j : Fin 1024) : (k0_pay4 : FVec Ideal S16x1024 .f32) (ix2 q j) = 0 := by
  pointwise [k0_pay4]

end Cert.PoolMix

end
-- ==== Proof.Band.lean ====
/- What is to be checked of the table of bands: in the part that meets the rows themselves, every entry of the band of a
   group is one inside the group's window and zero outside. -/
module

public import proofs.«01_k».proof.Proof.Window
public import proofs.«01_k».proof.Proof.Gen.Kernel2Ideal

@[expose] public section

noncomputable section

open Idealize.ShloMosaic

namespace Cert.Window

/-- `p k` for every `k < n`, with the value of `n` found by recursion. -/
def every (p : Nat → Bool) (n : Nat) : Bool := Nat.rec true (fun k r => cond (p k) r false) n

theorem every_apply {p : Nat → Bool} : ∀ {n : Nat}, every p n = true → ∀ k, k < n → p k = true
  | 0, _, k, hk => absurd hk (Nat.not_lt_zero k)
  | n + 1, h, k, hk => by
    have h' : cond (p n) (every p n) false = true := h
    cases hp : p n with
    | false => rw [hp] at h'; exact absurd h' (by simp)
    | true =>
      rw [hp] at h'
      rcases Nat.lt_succ_iff_lt_or_eq.1 hk with h1 | h1
      · exact every_apply h' k h1
      · rw [h1]; exact hp

/-- The check of rows `i0 ≤ i < i0 + n` of the band that starts at entry `o` of the table, with window `w`. -/
def rowsOk (t : Nat → BitVec 16) (o w i0 n : Nat) : Bool :=
  every (fun i => every (fun x => Nat.beq (BitVec.toNat (t (Nat.add (Nat.add o (Nat.mul (Nat.add i0 i) 288)) x)))
    (cond (inside w (Nat.add i0 i) x) 16256 0)) 144) n

theorem rowsOk_apply {t : Nat → BitVec 16} {o w i0 n : Nat} (h : rowsOk t o w i0 n = true) (i x : Nat) (hi : i0 ≤ i ∧ i < i0 + n)
    (hx : x < 144) : t (o + i * 288 + x) = if inside w i x = true then 16256#16 else 0#16 := by
  have h1 := every_apply (every_apply h (i - i0) (by omega)) x hx
  have h2 := Nat.eq_of_beq_eq_true h1
  have e : Nat.add i0 (i - i0) = i := by show i0 + (i - i0) = i; omega
  rw [e] at h2
  apply BitVec.eq_of_toNat_eq
  refine h2.trans ?_
  cases inside w i x <;> rfl

end Cert.Window

end
-- ==== Proof.Band0.lean ====
/- The band of the column group 0, whose window is 2 rows wide, entry by entry, eight rows at a time. -/
module

public import proofs.«01_k».proof.Proof.Band

@[expose] public section

set_option maxRecDepth 100000

noncomputable section

namespace Cert.Window

/-- Rows `8 * q` to `8 * q + 7` of the band are right. -/
abbrev Rows0 (q : Nat) : Prop := rowsOk Cert.Kernel2Ideal.lit0t 0 2 (8 * q) 8 = true

theorem rows0_0 : Rows0 0 := by decide +kernel
theorem rows0_1 : Rows0 1 := by decide +kernel
theorem rows0_2 : Rows0 2 := by decide +kernel
theorem rows0_3 : Rows0 3 := by decide +kernel
theorem rows0_4 : Rows0 4 := by decide +kernel
theorem rows0_5 : Rows0 5 := by decide +kernel
theorem rows0_6 : Rows0 6 := by decide +kernel
theorem rows0_7 : Rows0 7 := by decide +kernel
theorem rows0_8 : Rows0 8 := by decide +kernel
theorem rows0_9 : Rows0 9 := by decide +kernel
theorem rows0_10 : Rows0 10 := by decide +kernel
theorem rows0_11 : Rows0 11 := by decide +kernel
theorem rows0_12 : Rows0 12 := by decide +kernel
theorem rows0_13 : Rows0 13 := by decide +kernel
theorem rows0_14 : Rows0 14 := by decide +kernel
theorem rows0_15 : Rows0 15 := by decide +kernel

theorem band_0 (i x : Nat) (hi : i < 128) (hx : x < 144) :
    Cert.Kernel2Ideal.lit0t (0 + i * 288 + x) = if inside 2 i x = true then 16256#16 else 0#16 := by
  have h : ∀ q : Fin 16, Rows0 q.val := fun q => match q with
    | ⟨0, _⟩ => rows0_0
    | ⟨1, _⟩ => rows0_1
    | ⟨2, _⟩ => rows0_2
    | ⟨3, _⟩ => rows0_3
    | ⟨4, _⟩ => rows0_4
    | ⟨5, _⟩ => rows0_5
    | ⟨6, _⟩ => rows0_6
    | ⟨7, _⟩ => rows0_7
    | ⟨8, _⟩ => rows0_8
    | ⟨9, _⟩ => rows0_9
    | ⟨10, _⟩ => rows0_10
    | ⟨11, _⟩ => rows0_11
    | ⟨12, _⟩ => rows0_12
    | ⟨13, _⟩ => rows0_13
    | ⟨14, _⟩ => rows0_14
    | ⟨15, _⟩ => rows0_15
    | ⟨_ + 16, h⟩ => absurd h (by omega)
  exact rowsOk_apply (h ⟨i / 8, by omega⟩) i x ⟨by show 8 * (i / 8) ≤ i; omega, by show i < 8 * (i / 8) + 8; omega⟩ hx

end Cert.Window

end
-- ==== Proof.Band1.lean ====
/- The band of the column group 1, whose window is 4 rows wide, entry by entry, eight rows at a time. -/
module

public import proofs.«01_k».proof.Proof.Band

@[expose] public section

set_option maxRecDepth 100000

noncomputable section

namespace Cert.Window

/-- Rows `8 * q` to `8 * q + 7` of the band are right. -/
abbrev Rows1 (q : Nat) : Prop := rowsOk Cert.Kernel2Ideal.lit0t 36864 4 (8 * q) 8 = true

theorem rows1_0 : Rows1 0 := by decide +kernel
theorem rows1_1 : Rows1 1 := by decide +kernel
theorem rows1_2 : Rows1 2 := by decide +kernel
theorem rows1_3 : Rows1 3 := by decide +kernel
theorem rows1_4 : Rows1 4 := by decide +kernel
theorem rows1_5 : Rows1 5 := by decide +kernel
theorem rows1_6 : Rows1 6 := by decide +kernel
theorem rows1_7 : Rows1 7 := by decide +kernel
theorem rows1_8 : Rows1 8 := by decide +kernel
theorem rows1_9 : Rows1 9 := by decide +kernel
theorem rows1_10 : Rows1 10 := by decide +kernel
theorem rows1_11 : Rows1 11 := by decide +kernel
theorem rows1_12 : Rows1 12 := by decide +kernel
theorem rows1_13 : Rows1 13 := by decide +kernel
theorem rows1_14 : Rows1 14 := by decide +kernel
theorem rows1_15 : Rows1 15 := by decide +kernel

theorem band_1 (i x : Nat) (hi : i < 128) (hx : x < 144) :
    Cert.Kernel2Ideal.lit0t (36864 + i * 288 + x) = if inside 4 i x = true then 16256#16 else 0#16 := by
  have h : ∀ q : Fin 16, Rows1 q.val := fun q => match q with
    | ⟨0, _⟩ => rows1_0
    | ⟨1, _⟩ => rows1_1
    | ⟨2, _⟩ => rows1_2
    | ⟨3, _⟩ => rows1_3
    | ⟨4, _⟩ => rows1_4
    | ⟨5, _⟩ => rows1_5
    | ⟨6, _⟩ => rows1_6
    | ⟨7, _⟩ => rows1_7
    | ⟨8, _⟩ => rows1_8
    | ⟨9, _⟩ => rows1_9
    | ⟨10, _⟩ => rows1_10
    | ⟨11, _⟩ => rows1_11
    | ⟨12, _⟩ => rows1_12
    | ⟨13, _⟩ => rows1_13
    | ⟨14, _⟩ => rows1_14
    | ⟨15, _⟩ => rows1_15
    | ⟨_ + 16, h⟩ => absurd h (by omega)
  exact rowsOk_apply (h ⟨i / 8, by omega⟩) i x ⟨by show 8 * (i / 8) ≤ i; omega, by show i < 8 * (i / 8) + 8; omega⟩ hx

end Cert.Window

end
-- ==== Proof.Band2.lean ====
/- The band of the column group 2, whose window is 8 rows wide, entry by entry, eight rows at a time. -/
module

public import proofs.«01_k».proof.Proof.Band

@[expose] public section

set_option maxRecDepth 100000

noncomputable section

namespace Cert.Window

/-- Rows `8 * q` to `8 * q + 7` of the band are right. -/
abbrev Rows2 (q : Nat) : Prop := rowsOk Cert.Kernel2Ideal.lit0t 73728 8 (8 * q) 8 = true

theorem rows2_0 : Rows2 0 := by decide +kernel
theorem rows2_1 : Rows2 1 := by decide +kernel
theorem rows2_2 : Rows2 2 := by decide +kernel
theorem rows2_3 : Rows2 3 := by decide +kernel
theorem rows2_4 : Rows2 4 := by decide +kernel
theorem rows2_5 : Rows2 5 := by decide +kernel
theorem rows2_6 : Rows2 6 := by decide +kernel
theorem rows2_7 : Rows2 7 := by decide +kernel
theorem rows2_8 : Rows2 8 := by decide +kernel
theorem rows2_9 : Rows2 9 := by decide +kernel
theorem rows2_10 : Rows2 10 := by decide +kernel
theorem rows2_11 : Rows2 11 := by decide +kernel
theorem rows2_12 : Rows2 12 := by decide +kernel
theorem rows2_13 : Rows2 13 := by decide +kernel
theorem rows2_14 : Rows2 14 := by decide +kernel
theorem rows2_15 : Rows2 15 := by decide +kernel

theorem band_2 (i x : Nat) (hi : i < 128) (hx : x < 144) :
    Cert.Kernel2Ideal.lit0t (73728 + i * 288 + x) = if inside 8 i x = true then 16256#16 else 0#16 := by
  have h : ∀ q : Fin 16, Rows2 q.val := fun q => match q with
    | ⟨0, _⟩ => rows2_0
    | ⟨1, _⟩ => rows2_1
    | ⟨2, _⟩ => rows2_2
    | ⟨3, _⟩ => rows2_3
    | ⟨4, _⟩ => rows2_4
    | ⟨5, _⟩ => rows2_5
    | ⟨6, _⟩ => rows2_6
    | ⟨7, _⟩ => rows2_7
    | ⟨8, _⟩ => rows2_8
    | ⟨9, _⟩ => rows2_9
    | ⟨10, _⟩ => rows2_10
    | ⟨11, _⟩ => rows2_11
    | ⟨12, _⟩ => rows2_12
    | ⟨13, _⟩ => rows2_13
    | ⟨14, _⟩ => rows2_14
    | ⟨15, _⟩ => rows2_15
    | ⟨_ + 16, h⟩ => absurd h (by omega)
  exact rowsOk_apply (h ⟨i / 8, by omega⟩) i x ⟨by show 8 * (i / 8) ≤ i; omega, by show i < 8 * (i / 8) + 8; omega⟩ hx

end Cert.Window

end
-- ==== Proof.Band3.lean ====
/- The band of the column group 3, whose window is 16 rows wide, entry by entry, eight rows at a time. -/
module

public import proofs.«01_k».proof.Proof.Band

@[expose] public section

set_option maxRecDepth 100000

noncomputable section

namespace Cert.Window

/-- Rows `8 * q` to `8 * q + 7` of the band are right. -/
abbrev Rows3 (q : Nat) : Prop := rowsOk Cert.Kernel2Ideal.lit0t 110592 16 (8 * q) 8 = true

theorem rows3_0 : Rows3 0 := by decide +kernel
theorem rows3_1 : Rows3 1 := by decide +kernel
theorem rows3_2 : Rows3 2 := by decide +kernel
theorem rows3_3 : Rows3 3 := by decide +kernel
theorem rows3_4 : Rows3 4 := by decide +kernel
theorem rows3_5 : Rows3 5 := by decide +kernel
theorem rows3_6 : Rows3 6 := by decide +kernel
theorem rows3_7 : Rows3 7 := by decide +kernel
theorem rows3_8 : Rows3 8 := by decide +kernel
theorem rows3_9 : Rows3 9 := by decide +kernel
theorem rows3_10 : Rows3 10 := by decide +kernel
theorem rows3_11 : Rows3 11 := by decide +kernel
theorem rows3_12 : Rows3 12 := by decide +kernel
theorem rows3_13 : Rows3 13 := by decide +kernel
theorem rows3_14 : Rows3 14 := by decide +kernel
theorem rows3_15 : Rows3 15 := by decide +kernel

theorem band_3 (i x : Nat) (hi : i < 128) (hx : x < 144) :
    Cert.Kernel2Ideal.lit0t (110592 + i * 288 + x) = if inside 16 i x = true then 16256#16 else 0#16 := by
  have h : ∀ q : Fin 16, Rows3 q.val := fun q => match q with
    | ⟨0, _⟩ => rows3_0
    | ⟨1, _⟩ => rows3_1
    | ⟨2, _⟩ => rows3_2
    | ⟨3, _⟩ => rows3_3
    | ⟨4, _⟩ => rows3_4
    | ⟨5, _⟩ => rows3_5
    | ⟨6, _⟩ => rows3_6
    | ⟨7, _⟩ => rows3_7
    | ⟨8, _⟩ => rows3_8
    | ⟨9, _⟩ => rows3_9
    | ⟨10, _⟩ => rows3_10
    | ⟨11, _⟩ => rows3_11
    | ⟨12, _⟩ => rows3_12
    | ⟨13, _⟩ => rows3_13
    | ⟨14, _⟩ => rows3_14
    | ⟨15, _⟩ => rows3_15
    | ⟨_ + 16, h⟩ => absurd h (by omega)
  exact rowsOk_apply (h ⟨i / 8, by omega⟩) i x ⟨by show 8 * (i / 8) ≤ i; omega, by show i < 8 * (i / 8) + 8; omega⟩ hx

end Cert.Window

end
-- ==== Proof.Table.lean ====
/- The table of bands as the pooling call reads it. -/
module

public import proofs.«01_k».proof.Proof.Band0
public import proofs.«01_k».proof.Proof.Band1
public import proofs.«01_k».proof.Proof.Band2
public import proofs.«01_k».proof.Proof.Band3
public import Idealize.ShloMosaic.Lib.Pipeline.ValueKit
public import Idealize.ShloMosaic.Lib.IdealHost

@[expose] public section

noncomputable section

open Idealize.ShloMosaic

namespace Cert.Window

/-- An entry's place in the row-major table. -/
theorem place (g : Fin 4) (i : Fin 128) (x : Fin 288) :
    (Cert.Kernel2Ideal.S4x128x288.rowMajor (ix3 g i x)).val = g.val * 36864 + i.val * 288 + x.val := by
  have h : (Cert.Kernel2Ideal.S4x128x288.rowMajor (ix3 g i x)).val = (g.val * 128 + i.val) * 288 + x.val :=
    Shape.rowMajor_val_three _
  rw [h]
  omega

/-- The table at a place. -/
theorem lit_val (p : Fin 147456) : Cert.Kernel2Ideal.lit0 p = Cert.Kernel2Ideal.lit0t p.val := by
  obtain ⟨p, hp⟩ := p
  rfl

/-- The word at entry (g, i, x). -/
theorem row_apply (g : Fin 4) (i : Fin 128) (x : Fin 288) (hx : x.val < 144) :
    Cert.Kernel2Ideal.lit0t (g.val * 36864 + i.val * 288 + x.val)
      = if inside (2 ^ (g.val + 1)) i.val x.val = true then 16256#16 else 0#16 := by
  have b0 := band_0 i.val x.val i.isLt hx
  have b1 := band_1 i.val x.val i.isLt hx
  have b2 := band_2 i.val x.val i.isLt hx
  have b3 := band_3 i.val x.val i.isLt hx
  generalize i.val = a at *
  generalize x.val = b at *
  generalize Cert.Kernel2Ideal.lit0t = f at *
  obtain ⟨g, hg⟩ := g
  obtain rfl | rfl | rfl | rfl : g = 0 ∨ g = 1 ∨ g = 2 ∨ g = 3 := by omega
  · simpa using b0
  · rw [show (⟨1, hg⟩ : Fin 4).val * 36864 = 36864 by norm_num, show 2 ^ ((⟨1, hg⟩ : Fin 4).val + 1) = 4 by norm_num]
    exact b1
  · rw [show (⟨2, hg⟩ : Fin 4).val * 36864 = 73728 by norm_num, show 2 ^ ((⟨2, hg⟩ : Fin 4).val + 1) = 8 by norm_num]
    exact b2
  · rw [show (⟨3, hg⟩ : Fin 4).val * 36864 = 110592 by norm_num, show 2 ^ ((⟨3, hg⟩ : Fin 4).val + 1) = 16 by norm_num]
    exact b3

/-- Entry (g, i, x) of the table, in its first 144 columns: whether row `x` is in the window of row `i`. -/
theorem table_apply (g : Fin 4) (i : Fin 128) (x : Fin 288) (hx : x.val < 144) :
    (FloatOps.ofBits .bf16 (Cert.Kernel2Ideal.lit0 (Cert.Kernel2Ideal.S4x128x288.rowMajor (ix3 g i x))) : Ideal .bf16)
      = if inside (2 ^ (g.val + 1)) i.val x.val = true then 1 else 0 := by
  have e : Cert.Kernel2Ideal.lit0 (Cert.Kernel2Ideal.S4x128x288.rowMajor (ix3 g i x))
      = Cert.Kernel2Ideal.lit0t (g.val * 36864 + i.val * 288 + x.val) :=
    (lit_val _).trans (congrArg Cert.Kernel2Ideal.lit0t (place g i x))
  rw [e, row_apply g i x hx]
  by_cases h : inside (2 ^ (g.val + 1)) i.val x.val = true
  · rw [if_pos h, if_pos h]; exact Ideal.ofBits_one_bf16
  · rw [if_neg h, if_neg h]; exact Ideal.ofBits_zero_bf16

end Cert.Window

end
-- ==== Proof.PoolRead.lean ====
/- The pooling call's blocks, read from the argument arrays. -/
module

public import proofs.«01_k».proof.Proof.Gen.Kernel2Ideal.Frame
public import proofs.«01_k».proof.Proof.Tail
public import proofs.«01_k».proof.Proof.Sequence
public import proofs.«01_k».proof.Proof.Table
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PoolValue

open Cert.Kernel2Ideal Cert.Kernel2Ideal.Gen Cert.Rows

variable (m : (ℓ : Loc nD τ sig) → Buf (Elt Ideal) ℓ)

/-- The windows' block indices at point `t` of the grid of 8 sequences by 4 row tiles. -/
theorem idx : ∀ t : Fin cfg0.N, win0_0.index t = ![t.val / 4, t.val % 4, 0] ∧ win0_1.index t = ![t.val / 4, 0, 0]
    ∧ win0_2.index t = ![0, 0] ∧ win0_3.index t = ![0, 0, 0] ∧ win0_4.index t = ![0, 0, 0] ∧ win0_5.index t = ![0, 0]
    ∧ win0_6.index t = ![1, 0, 0] ∧ win0_7.index t = ![1, 0, 0] ∧ win0_8.index t = ![t.val / 4, t.val % 4, 0]
    ∧ win0_9.index t = ![t.val / 4, 0, 0] ∧ t.val / 4 < 8 ∧ (grid0.coords t 1).val = t.val % 4 :=
  (by decide +kernel : ∀ t : Fin grid0.N, _)

/-- Point `t`'s sequence. -/
abbrev seqOf (t : Fin cfg0.N) : Fin 8 := ⟨t.val / 4, (idx t).2.2.2.2.2.2.2.2.2.2.1⟩

/-- Row `r` of point `t`'s tile. -/
abbrev rowOf (t : Fin cfg0.N) (r : Fin 512) : Fin 2048 := ⟨t.val % 4 * 512 + r.val, by omega⟩

theorem read_x (c : Dev nD) (t : Fin cfg0.N) (r : Fin 512) (k : Fin 1024) :
    iblk m c 0 t (ix3 0 r k) = m ((c : Thread nD τ).loc main_arg0) (ix3 (seqOf t) (rowOf t r) k) := by
  blk_ext [iblk, V, idx t]

theorem read_mod (c : Dev nD) (t : Fin cfg0.N) (q : Fin 6144) :
    iblk m c 1 t (ix3 0 0 q) = m ((c : Thread nD τ).loc main_arg1) (ix3 1 (seqOf t) q) := by
  blk_ext! [iblk, V, idx t]

/-- The block of the stacked norm rows is the stack that the host made. -/
theorem read_ln (c : Dev nD) (t : Fin cfg0.N) (q : Fin 4) (k : Fin 1024) :
    iblk m c 2 t (ix2 q k) = V m c main_v17 (ix2 q k) := by
  blk_ext [iblk, (idx t).2.2.1]

theorem ln_g0 (c : Dev nD) (k : Fin 1024) : V m c main_v17 (ix2 0 k) = m ((c : Thread nD τ).loc main_arg2) (ix3 1 0 k) := by
  unfold V; after_reads_at; after_reads_at

theorem ln_b0 (c : Dev nD) (k : Fin 1024) : V m c main_v17 (ix2 1 k) = m ((c : Thread nD τ).loc main_arg3) (ix3 1 0 k) := by
  unfold V; after_reads_at; after_reads_at

theorem ln_g1 (c : Dev nD) (k : Fin 1024) : V m c main_v17 (ix2 2 k) = m ((c : Thread nD τ).loc main_arg2) (ix3 1 1 k) := by
  unfold V; after_reads_at; after_reads_at

theorem ln_b1 (c : Dev nD) (k : Fin 1024) : V m c main_v17 (ix2 3 k) = m ((c : Thread nD τ).loc main_arg3) (ix3 1 1 k) := by
  unfold V; after_reads_at; after_reads_at

theorem read_band (c : Dev nD) (t : Fin cfg0.N) (g : Fin 4) (i : Fin 128) (x : Fin 288) :
    iblk m c 3 t (ix3 g i x) = (FloatOps.ofBits .bf16 (lit0 (S4x128x288.rowMajor (ix3 g i x))) : Ideal .bf16) := by
  blk_ext [iblk, V, idx t]

theorem read_pw (c : Dev nD) (t : Fin cfg0.N) (g : Fin 4) (a : Fin 256) (k : Fin 256) :
    iblk m c 4 t (ix3 g a k) = m ((c : Thread nD τ).loc main_arg4) (ix4 0 g a k) := by
  blk_ext! [iblk, V, idx t]

theorem read_ps (c : Dev nD) (t : Fin cfg0.N) (k : Fin 1024) :
    iblk m c 5 t (ix2 0 k) = m ((c : Thread nD τ).loc main_arg5) (ix2 0 k) := by
  blk_ext [iblk, V, idx t]

theorem read_up (c : Dev nD) (t : Fin cfg0.N) (k : Fin 1024) (q : Fin 5632) :
    iblk m c 6 t (ix3 0 k q) = m ((c : Thread nD τ).loc main_arg6) (ix3 1 k q) := by
  blk_ext! [iblk, V, idx t]

theorem read_down (c : Dev nD) (t : Fin cfg0.N) (q : Fin 2816) (j : Fin 1024) :
    iblk m c 7 t (ix3 0 q j) = m ((c : Thread nD τ).loc main_arg7) (ix3 1 q j) := by
  blk_ext! [iblk, V, idx t]

end Cert.PoolValue

end
-- ==== Proof.PoolValue.lean ====
/- The pooling call's result arrays after the run: the layer's output, and the last sixteen rows that entered the mixer. -/
module

public import proofs.«01_k».proof.Proof.PoolBlock
public import proofs.«01_k».proof.Proof.PoolRead

@[expose] public section

set_option maxRecDepth 16384

noncomputable section

open Idealize.ShloMosaic Idealize.ShloMosaic.TcCoe Idealize.SL.Sem
open Idealize.ShloMosaic.Pipeline (Dat)

namespace Cert.PoolValue

open Cert.Kernel2Ideal Cert.Kernel2Ideal.Gen Cert.Rows Cert.Window Cert.PoolMix

/-- The rows that enter the mixer: sequence `s`, scaled and shifted. -/
def entry (y : Arr ⟨3, ![8, 2048, 1024]⟩) (mod : Arr ⟨3, ![2, 8, 6144]⟩) (s : Fin 8) : Fin 2048 → Fin 1024 → EReal :=
  fun l j => y (ix3 s l j) * (1 + mod (ix3 1 s ⟨1024 + j.val, by omega⟩)) + mod (ix3 1 s ⟨j.val, by omega⟩)

/-- The matrices of the column groups. -/
abbrev groups (pw : Arr ⟨4, ![1, 4, 256, 256]⟩) : Fin 4 → Fin 256 → Fin 256 → EReal := fun g a k => pw (ix4 0 g a k)

/-- The mixer's output row. -/
def mixed (y : Arr ⟨3, ![8, 2048, 1024]⟩) (mod : Arr ⟨3, ![2, 8, 6144]⟩) (pw : Arr ⟨4, ![1, 4, 256, 256]⟩) (ps : Arr ⟨2, ![1, 1024]⟩)
    (s : Fin 8) (l : Fin 2048) : Row :=
  mix (pool (entry y mod s) l) (groups pw) (fun k => ps (ix2 0 k))

/-- The layer's output as a function of the argument arrays. -/
def G (y : Arr ⟨3, ![8, 2048, 1024]⟩) (mod : Arr ⟨3, ![2, 8, 6144]⟩) (g b : Arr ⟨3, ![2, 2, 1024]⟩)
    (pw : Arr ⟨4, ![1, 4, 256, 256]⟩) (ps : Arr ⟨2, ![1, 1024]⟩) (wu : Arr ⟨3, ![2, 1024, 5632]⟩)
    (wd : Arr ⟨3, ![2, 2816, 1024]⟩) : Arr ⟨3, ![8, 2048, 1024]⟩ := fun i =>
  tail 1 mod g b wu wd (i 0) (seqRow y (i 0) (i 1)) (mixed y mod pw ps (i 0) (i 1)) (i 2)

/-- The kept rows as a function of the argument arrays. -/
def K (y : Arr ⟨3, ![8, 2048, 1024]⟩) (mod : Arr ⟨3, ![2, 8, 6144]⟩) : Arr ⟨3, ![8, 16, 1024]⟩ := fun i =>
  entry y mod (i 0) ⟨2032 + (i 1).val, by have : (i 1).val < 16 := (i 1).isLt; omega⟩ (i 2)

variable (m : (ℓ : Loc nD τ sig) → Buf (Elt Ideal) ℓ) (c : Dev nD)

/-- The rows that enter the mixer, of point `t`'s sequence. -/
abbrev rows (t : Fin cfg0.N) : Fin 2048 → Fin 1024 → EReal :=
  entry (m ((c : Thread nD τ).loc main_arg0)) (m ((c : Thread nD τ).loc main_arg1)) (seqOf t)

/-- Point `t`'s tile within its sequence. -/
abbrev tileOf (t : Fin cfg0.N) : Fin 4 := ⟨t.val % 4, Nat.mod_lt _ (by decide)⟩

theorem tile_row (t : Fin cfg0.N) (r : Fin 512) (j : Fin 1024) :
    k0_pay7 (iblk m c 0 t) (iblk m c 1 t) (ix2 r j) = rows m c t (rowOf t r) j := by
  rw [entered, read_x, read_mod, read_mod]
  rfl

theorem tile_own (t : Fin cfg0.N) (r : Fin 512) (j : Fin 1024) :
    k0_pay7 (iblk m c 0 t) (iblk m c 1 t) (ix2 r j) = extOf (rows m c t) (tileOf t) ⟨16 + r.val, by omega⟩ j := by
  rw [tile_row]
  refine Eq.symm ((if_pos (by show 16 ≤ t.val % 4 * 512 + (16 + r.val); omega)).trans ?_)
  exact congrArg (fun l => rows m c t l j) (Fin.ext (by show t.val % 4 * 512 + (16 + r.val) - 16 = t.val % 4 * 512 + r.val; omega))

/-- Before a sequence's first tile stand zeros … -/
theorem halo_first (t : Fin cfg0.N) (h0 : t.val % 4 = 0) (q : Fin 16) (j : Fin 1024) :
    extOf (rows m c t) (tileOf t) ⟨q.val, by omega⟩ j = 0 :=
  if_neg (by show ¬16 ≤ t.val % 4 * 512 + q.val; omega)

/-- … and before a later one what the tile before left. -/
theorem halo_later (t : Fin cfg0.N) (h0 : ¬t.val % 4 = 0) (q : Fin 16) (j : Fin 1024) :
    (outsAt0 m c (t.val - 1) (by omega)).2.2 (ix2 ⟨q.val, by omega⟩ j) = extOf (rows m c t) (tileOf t) ⟨q.val, by omega⟩ j := by
  have hs : seqOf (⟨t.val - 1, by omega⟩ : Fin cfg0.N) = seqOf t := Fin.ext (by show (t.val - 1) / 4 = t.val / 4; omega)
  refine (carried m c (⟨t.val - 1, by omega⟩ : Fin cfg0.N) q j).trans ((tile_row m c _ _ _).trans ?_)
  unfold rows
  rw [hs]
  refine Eq.symm ((if_pos (by show 16 ≤ t.val % 4 * 512 + q.val; omega)).trans ?_)
  exact congrArg (fun l => rows m c t l j)
    (Fin.ext (by show t.val % 4 * 512 + q.val - 16 = (t.val - 1) % 4 * 512 + (496 + q.val); omega))

theorem bands (t : Fin cfg0.N) : Bands (View.ld (iblk m c 3 t) (Rect.unit ![0, 0, 0] ![1, 128, 288] inb_S4x128x288_S1x128x288_0_0_0))
    (View.ld (iblk m c 3 t) (Rect.unit ![1, 0, 0] ![1, 128, 288] inb_S4x128x288_S1x128x288_1_0_0))
    (View.ld (iblk m c 3 t) (Rect.unit ![2, 0, 0] ![1, 128, 288] inb_S4x128x288_S1x128x288_2_0_0))
    (View.ld (iblk m c 3 t) (Rect.unit ![3, 0, 0] ![1, 128, 288] inb_S4x128x288_S1x128x288_3_0_0)) where
  g0 := fun i x hx => (load_stack (iblk m c 3 t) 0 0 0 _ 0 i x 0 i x rfl (Nat.zero_add _).symm (Nat.zero_add _).symm).trans
    ((read_band m c t 0 i x).trans (table_apply 0 i x hx))
  g1 := fun i x hx => (load_stack (iblk m c 3 t) 1 0 0 _ 0 i x 1 i x rfl (Nat.zero_add _).symm (Nat.zero_add _).symm).trans
    ((read_band m c t 1 i x).trans (table_apply 1 i x hx))
  g2 := fun i x hx => (load_stack (iblk m c 3 t) 2 0 0 _ 0 i x 2 i x rfl (Nat.zero_add _).symm (Nat.zero_add _).symm).trans
    ((read_band m c t 2 i x).trans (table_apply 2 i x hx))
  g3 := fun i x hx => (load_stack (iblk m c 3 t) 3 0 0 _ 0 i x 3 i x rfl (Nat.zero_add _).symm (Nat.zero_add _).symm).trans
    ((read_band m c t 3 i x).trans (table_apply 3 i x hx))

theorem weights (t : Fin cfg0.N) : Weights (groups (m ((c : Thread nD τ).loc main_arg4)))
    (View.ld (iblk m c 4 t) (Rect.unit ![0, 0, 0] ![1, 256, 256] inb_S4x256x256_S1x256x256_0_0_0))
    (View.ld (iblk m c 4 t) (Rect.unit ![1, 0, 0] ![1, 256, 256] inb_S4x256x256_S1x256x256_1_0_0))
    (View.ld (iblk m c 4 t) (Rect.unit ![2, 0, 0] ![1, 256, 256] inb_S4x256x256_S1x256x256_2_0_0))
    (View.ld (iblk m c 4 t) (Rect.unit ![3, 0, 0] ![1, 256, 256] inb_S4x256x256_S1x256x256_3_0_0)) where
  g0 := fun a k => (load_stack (iblk m c 4 t) 0 0 0 _ 0 a k 0 a k rfl (Nat.zero_add _).symm (Nat.zero_add _).symm).trans (read_pw m c t 0 a k)
  g1 := fun a k => (load_stack (iblk m c 4 t) 1 0 0 _ 0 a k 1 a k rfl (Nat.zero_add _).symm (Nat.zero_add _).symm).trans (read_pw m c t 1 a k)
  g2 := fun a k => (load_stack (iblk m c 4 t) 2 0 0 _ 0 a k 2 a k rfl (Nat.zero_add _).symm (Nat.zero_add _).symm).trans (read_pw m c t 2 a k)
  g3 := fun a k => (load_stack (iblk m c 4 t) 3 0 0 _ 0 a k 3 a k rfl (Nat.zero_add _).symm (Nat.zero_add _).symm).trans (read_pw m c t 3 a k)

theorem pieces (t : Fin cfg0.N) : PoolTail.Pieces (wideAt (m ((c : Thread nD τ).loc main_arg6)) 1) (narrowAt (m ((c : Thread nD τ).loc main_arg7)) 1)
    (View.ld (iblk m c 6 t) (Rect.unit ![0, 0, 0] ![1, 1024, 1536] inb_S1x1024x5632_S1x1024x1536_0_0_0))
    (View.ld (iblk m c 6 t) (Rect.unit ![0, 0, 2816] ![1, 1024, 1536] inb_S1x1024x5632_S1x1024x1536_0_0_2816))
    (View.ld (iblk m c 7 t) (Rect.unit ![0, 0, 0] ![1, 1536, 1024] inb_S1x2816x1024_S1x1536x1024_0_0_0))
    (View.ld (iblk m c 6 t) (Rect.unit ![0, 0, 1536] ![1, 1024, 1280] inb_S1x1024x5632_S1x1024x1280_0_0_1536))
    (View.ld (iblk m c 6 t) (Rect.unit ![0, 0, 4352] ![1, 1024, 1280] inb_S1x1024x5632_S1x1024x1280_0_0_4352))
    (View.ld (iblk m c 7 t) (Rect.unit ![0, 1536, 0] ![1, 1280, 1024] inb_S1x2816x1024_S1x1280x1024_0_1536_0)) where
  h0 := fun k q => (load_stack (iblk m c 6 t) 0 0 0 _ 0 k q 0 k ⟨q.val, by omega⟩ rfl (Nat.zero_add _).symm (Nat.zero_add _).symm).trans (read_up m c t k _)
  h1 := fun k q => (load_stack (iblk m c 6 t) 0 0 2816 _ 0 k q 0 k ⟨2816 + q.val, by omega⟩ rfl (Nat.zero_add _).symm rfl).trans (read_up m c t k _)
  h2 := fun k q => (load_stack (iblk m c 6 t) 0 0 1536 _ 0 k q 0 k ⟨1536 + q.val, by omega⟩ rfl (Nat.zero_add _).symm rfl).trans (read_up m c t k _)
  h3 := fun k q => (load_stack (iblk m c 6 t) 0 0 4352 _ 0 k q 0 k ⟨4352 + q.val, by omega⟩ rfl (Nat.zero_add _).symm rfl).trans (read_up m c t k _)
  e0 := fun q j => (load_stack (iblk m c 7 t) 0 0 0 _ 0 q j 0 ⟨q.val, by omega⟩ j rfl (Nat.zero_add _).symm (Nat.zero_add _).symm).trans (read_down m c t _ j)
  e1 := fun q j => (load_stack (iblk m c 7 t) 0 1536 0 _ 0 q j 0 ⟨1536 + q.val, by omega⟩ j rfl rfl (Nat.zero_add _).symm).trans (read_down m c t _ j)

/-- The stored row, from the mixer's output of the tile: the layer's output row. -/
theorem common (t : Fin cfg0.N) (r : Fin 512) (j : Fin 1024) :
    last (mid (fun k => iblk m c 0 t (ix3 0 r k))
          (mix (pooled (extOf (rows m c t) (tileOf t)) (grid0.coords t 1).val r) (groups (m ((c : Thread nD τ).loc main_arg4)))
            (fun k => iblk m c 5 t (ix2 0 k)))
          (fun q => iblk m c 1 t (ix3 0 0 q)) (fun k => iblk m c 2 t (ix2 0 k)) (fun k => iblk m c 2 t (ix2 1 k)))
        (fun q => iblk m c 1 t (ix3 0 0 q)) (fun k => iblk m c 2 t (ix2 2 k)) (fun k => iblk m c 2 t (ix2 3 k))
        (wideAt (m ((c : Thread nD τ).loc main_arg6)) 1) (narrowAt (m ((c : Thread nD τ).loc main_arg7)) 1) j
      = tail 1 (m ((c : Thread nD τ).loc main_arg1)) (m ((c : Thread nD τ).loc main_arg2)) (m ((c : Thread nD τ).loc main_arg3))
          (m ((c : Thread nD τ).loc main_arg6)) (m ((c : Thread nD τ).loc main_arg7)) (seqOf t)
          (seqRow (m ((c : Thread nD τ).loc main_arg0)) (seqOf t) (rowOf t r))
          (mixed (m ((c : Thread nD τ).loc main_arg0)) (m ((c : Thread nD τ).loc main_arg1)) (m ((c : Thread nD τ).loc main_arg4))
            (m ((c : Thread nD τ).loc main_arg5)) (seqOf t) (rowOf t r)) j := by
  unfold tail mixed
  have hc : (grid0.coords t 1).val = (tileOf t).val := (idx t).2.2.2.2.2.2.2.2.2.2.2
  have hp : pooled (extOf (rows m c t) (tileOf t)) (grid0.coords t 1).val r = pool (rows m c t) (rowOf t r) := by
    rw [hc]; exact funext fun k => pooled_extOf _ _ _ _
  rw [hp]
  simp only [read_x, read_mod, read_ln, read_ps]
  have e0 := funext (ln_g0 m c)
  have e1 := funext (ln_b0 m c)
  have e2 := funext (ln_g1 m c)
  have e3 := funext (ln_b1 m c)
  refine Eq.trans (congrFun (congr (congr (congrArg (fun z g b => last z _ g b _ _) ?_) e2) e3) j) rfl
  exact congr (congrArg (mid _ _ _) e0) e1

end Cert.PoolValue

end
-- ==== Proof.PoolPoint.lean ====
/- What the pooling call's body stores at each point, and the result arrays after the run. -/
module

public import proofs.«01_k».proof.Proof.PoolValue

@[expose] public section

set_option maxRecDepth 16384

noncomputable section

open Idealize.ShloMosaic Idealize.ShloMosaic.TcCoe Idealize.SL.Sem
open Idealize.ShloMosaic.Pipeline (Dat)

namespace Cert.PoolValue

open Cert.Kernel2Ideal Cert.Kernel2Ideal.Gen Cert.Rows Cert.Window Cert.PoolMix

variable (m : (ℓ : Loc nD τ sig) → Buf (Elt Ideal) ℓ) (c : Dev nD)

/-- The extended tile at point `t`. -/
abbrev ext (t : Fin cfg0.N) : Ext := extOf (rows m c t) (tileOf t)

/-- The halo that point `t` finds, read through the scratch as the run holds it. -/
theorem halo_read (t : Fin cfg0.N) (h0 : ¬t.val % 4 = 0) {b : ℕ} (hb : b + 256 ≤ 1024) (X : Vec Ideal S528x1024 .f32)
    (hX : X = (outsAt0 m c (t.val - 1) (by omega)).2.2)
    (h : ∀ x, (![0, b] : Fin 2 → ℕ) x + (![16, 256] : Fin 2 → ℕ) x ≤ S528x1024.size x) (q : Fin 16) (k : Fin 256) :
    View.ld X (Rect.unit (s := S528x1024) ![0, b] ![16, 256] h) (ix2 q k : (⟨2, ![16, 256]⟩ : Shape).Idx)
      = ext m c t ⟨q.val, by omega⟩ ⟨b + k.val, by omega⟩ := by
  refine (View.ld_unit_apply_of (Val := Elt Ideal) (S := S528x1024) X _ _ h _
    (ix2 (⟨q.val, by omega⟩ : Fin 528) (⟨b + k.val, by omega⟩ : Fin 1024)) fun a => ?_).trans ?_
  · match a with
    | ⟨0, _⟩ => exact (Nat.zero_add _).symm
    | ⟨1, _⟩ => rfl
  · rw [hX]
    exact halo_later m c t h0 q _

/-- The stored row, the mixer's output of the tile being known. -/
theorem finish (t : Fin cfg0.N) (r : Fin 512) (j : Fin 1024) (h : FVec Ideal S512x1024 .f32)
    (hX : ∀ k, h (ix2 r k) = mix (pooled (ext m c t) (grid0.coords t 1).val r) (groups (m ((c : Thread nD τ).loc main_arg4)))
      (fun k => iblk m c 5 t (ix2 0 k)) k) :
    last (PoolTail.midRow (iblk m c 0 t) (iblk m c 1 t) (iblk m c 2 t) h r)
        (fun q => iblk m c 1 t (ix3 0 0 q)) (fun k => iblk m c 2 t (ix2 2 k)) (fun k => iblk m c 2 t (ix2 3 k))
        (wideAt (m ((c : Thread nD τ).loc main_arg6)) 1) (narrowAt (m ((c : Thread nD τ).loc main_arg7)) 1) j
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (seqOf t) (rowOf t r) j) := by
  rw [midRow_of _ _ _ h r _ hX]
  exact common m c t r j

set_option maxHeartbeats 4000000 in
/-- The first tile of a sequence. -/
theorem point_A (hE : ∀ t p j, Finite (ext m c t p j)) (t : Fin cfg0.N) (h0 : t.val % 4 = 0) (h1 : ¬t.val % 4 = 3) (r : Fin 512) (j : Fin 1024) :
    (outsAt0 m c t.val t.isLt).1 (ix3 0 r j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (seqOf t) (rowOf t r) j) := by
  rw [outsAt0_A m c t h0 h1]
  frame_out
  refine (PoolTail.out_apply _ _ _ _ (pieces m c t) r j).trans ?_
  have hP := tile_own m c t
  have H := fun (b : ℕ) (hb : b + 256 ≤ 1024) h' h'' h (q : Fin 16) (k : Fin 256) =>
    (load_halo (k0_pay7 (iblk m c 0 t) (iblk m c 1 t)) k0_pay4 [] (n := 16) (w := 256) b h' h'' h q k q.isLt (by omega)).trans
      ((nothing _ _).trans (halo_first m c t h0 q ⟨b + k.val, by omega⟩).symm)
  refine finish m c t r j _ fun k => ?_
  refine mixer (hE t) (bands m c t) (weights m c t) (grid0.coords t) (grid0.coords t 1).isLt ?_ ?_ ?_ ?_ _ r k
  · exact ⟨cut_first hP (by decide) _ _ _ (H 0 (by decide) _ _ _), cut_first hP (by decide) _ _ _ (H 256 (by decide) _ _ _),
      cut_first hP (by decide) _ _ _ (H 512 (by decide) _ _ _), cut_first hP (by decide) _ _ _ (H 768 (by decide) _ _ _)⟩
  · exact ⟨cut_upper hP fits1 (by decide) (by decide) 144 rfl _ _ _, cut_upper hP fits1 (by decide) (by decide) 144 rfl _ _ _, cut_upper hP fits1 (by decide) (by decide) 144 rfl _ _ _, cut_upper hP fits1 (by decide) (by decide) 144 rfl _ _ _⟩
  · exact ⟨cut_upper hP fits2 (by decide) (by decide) 272 rfl _ _ _, cut_upper hP fits2 (by decide) (by decide) 272 rfl _ _ _, cut_upper hP fits2 (by decide) (by decide) 272 rfl _ _ _, cut_upper hP fits2 (by decide) (by decide) 272 rfl _ _ _⟩
  · exact ⟨cut_upper hP fits3 (by decide) (by decide) 400 rfl _ _ _, cut_upper hP fits3 (by decide) (by decide) 400 rfl _ _ _, cut_upper hP fits3 (by decide) (by decide) 400 rfl _ _ _, cut_upper hP fits3 (by decide) (by decide) 400 rfl _ _ _⟩

set_option maxHeartbeats 4000000 in
/-- A middle tile. -/
theorem point_B (hE : ∀ t p j, Finite (ext m c t p j)) (t : Fin cfg0.N) (h0 : ¬t.val % 4 = 0) (h1 : ¬t.val % 4 = 3) (r : Fin 512) (j : Fin 1024) :
    (outsAt0 m c t.val t.isLt).1 (ix3 0 r j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (seqOf t) (rowOf t r) j) := by
  rw [outsAt0_B m c t h0 h1]
  frame_out
  refine (PoolTail.out_apply _ _ _ _ (pieces m c t) r j).trans ?_
  have hP := tile_own m c t
  have H := fun (b : ℕ) (hb : b + 256 ≤ 1024) X hX h (q : Fin 16) (k : Fin 256) => halo_read m c t h0 hb X hX h q k
  refine finish m c t r j _ fun k => ?_
  refine mixer (hE t) (bands m c t) (weights m c t) (grid0.coords t) (grid0.coords t 1).isLt ?_ ?_ ?_ ?_ _ r k
  · exact ⟨cut_first hP (by decide) _ _ _ (H 0 (by decide) _ (Memref.IsWhole.read_unread _ _) _), cut_first hP (by decide) _ _ _ (H 256 (by decide) _ (Memref.IsWhole.read_unread _ _) _),
      cut_first hP (by decide) _ _ _ (H 512 (by decide) _ (Memref.IsWhole.read_unread _ _) _), cut_first hP (by decide) _ _ _ (H 768 (by decide) _ (Memref.IsWhole.read_unread _ _) _)⟩
  · exact ⟨cut_upper hP fits1 (by decide) (by decide) 144 rfl _ _ _, cut_upper hP fits1 (by decide) (by decide) 144 rfl _ _ _, cut_upper hP fits1 (by decide) (by decide) 144 rfl _ _ _, cut_upper hP fits1 (by decide) (by decide) 144 rfl _ _ _⟩
  · exact ⟨cut_upper hP fits2 (by decide) (by decide) 272 rfl _ _ _, cut_upper hP fits2 (by decide) (by decide) 272 rfl _ _ _, cut_upper hP fits2 (by decide) (by decide) 272 rfl _ _ _, cut_upper hP fits2 (by decide) (by decide) 272 rfl _ _ _⟩
  · exact ⟨cut_upper hP fits3 (by decide) (by decide) 400 rfl _ _ _, cut_upper hP fits3 (by decide) (by decide) 400 rfl _ _ _, cut_upper hP fits3 (by decide) (by decide) 400 rfl _ _ _, cut_upper hP fits3 (by decide) (by decide) 400 rfl _ _ _⟩

set_option maxHeartbeats 4000000 in
/-- A sequence's last tile. -/
theorem point_C (hE : ∀ t p j, Finite (ext m c t p j)) (t : Fin cfg0.N) (h0 : ¬t.val % 4 = 0) (h1 : t.val % 4 = 3) (r : Fin 512) (j : Fin 1024) :
    (outsAt0 m c t.val t.isLt).1 (ix3 0 r j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (seqOf t) (rowOf t r) j) := by
  rw [outsAt0_C m c t h0 h1]
  frame_out
  refine (PoolTail.out_apply _ _ _ _ (pieces m c t) r j).trans ?_
  have hP := tile_own m c t
  have H := fun (b : ℕ) (hb : b + 256 ≤ 1024) X hX h (q : Fin 16) (k : Fin 256) => halo_read m c t h0 hb X hX h q k
  refine finish m c t r j _ fun k => ?_
  refine mixer (hE t) (bands m c t) (weights m c t) (grid0.coords t) (grid0.coords t 1).isLt ?_ ?_ ?_ ?_ _ r k
  · exact ⟨cut_first hP (by decide) _ _ _ (H 0 (by decide) _ (Memref.IsWhole.read_unread _ _) _), cut_first hP (by decide) _ _ _ (H 256 (by decide) _ (Memref.IsWhole.read_unread _ _) _),
      cut_first hP (by decide) _ _ _ (H 512 (by decide) _ (Memref.IsWhole.read_unread _ _) _), cut_first hP (by decide) _ _ _ (H 768 (by decide) _ (Memref.IsWhole.read_unread _ _) _)⟩
  · exact ⟨cut_upper hP fits1 (by decide) (by decide) 144 rfl _ _ _, cut_upper hP fits1 (by decide) (by decide) 144 rfl _ _ _, cut_upper hP fits1 (by decide) (by decide) 144 rfl _ _ _, cut_upper hP fits1 (by decide) (by decide) 144 rfl _ _ _⟩
  · exact ⟨cut_upper hP fits2 (by decide) (by decide) 272 rfl _ _ _, cut_upper hP fits2 (by decide) (by decide) 272 rfl _ _ _, cut_upper hP fits2 (by decide) (by decide) 272 rfl _ _ _, cut_upper hP fits2 (by decide) (by decide) 272 rfl _ _ _⟩
  · exact ⟨cut_upper hP fits3 (by decide) (by decide) 400 rfl _ _ _, cut_upper hP fits3 (by decide) (by decide) 400 rfl _ _ _, cut_upper hP fits3 (by decide) (by decide) 400 rfl _ _ _, cut_upper hP fits3 (by decide) (by decide) 400 rfl _ _ _⟩

/-- What any point stores. -/
theorem point (hE : ∀ t p j, Finite (ext m c t p j)) (t : Fin cfg0.N) (r : Fin 512) (j : Fin 1024) :
    (outsAt0 m c t.val t.isLt).1 (ix3 0 r j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (seqOf t) (rowOf t r) j) := by
  by_cases h0 : t.val % 4 = 0
  · exact point_A m c hE t h0 (by omega) r j
  by_cases h1 : t.val % 4 = 3
  · exact point_C m c hE t h0 h1 r j
  exact point_B m c hE t h0 h1 r j

/-- The rows that a sequence's last tile keeps. -/
theorem kept (t : Fin cfg0.N) (h1 : t.val % 4 = 3) (q : Fin 16) (j : Fin 1024) :
    (outsAt0 m c t.val t.isLt).2.1 (ix3 0 q j) = K (m ((c : Thread nD τ).loc main_arg0)) (m ((c : Thread nD τ).loc main_arg1)) (ix3 (seqOf t) q j) := by
  have own := fun L h' h => load_own (k0_pay7 (iblk m c 0 t) (iblk m c 1 t)) L 512 0 h' h (by decide) q j (by omega) (by omega)
  have ej : (⟨0 + j.val, by omega⟩ : Fin 1024) = j := Fin.ext (Nat.zero_add _)
  simp only [ej] at own
  have key : ∀ w : FVec Ideal S16x1024 .f32, (k0_pay3 w : FVec Ideal S1x16x1024 .f32) (ix3 0 q j) = w (ix2 q j) := by
    intro w
    pointwise [k0_pay3]
  rw [outsAt0_C m c t (by omega) h1]
  frame_out
  refine (key _).trans ((own _ _ _).trans ((tile_row m c t _ j).trans ?_))
  refine congrArg (fun l => rows m c t l j) (Fin.ext ?_)
  show t.val % 4 * 512 + (512 - 16 + q.val) = 2032 + q.val
  omega

/-- THE LAYER'S OUTPUT. -/
theorem final8 (hE : ∀ t p j, Finite (ext m c t p j)) : (dats m 0 c).arrAt 8 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  idx_vars y
  obtain rfl : y0 = 0 := Subsingleton.elim _ _
  rw [point m c hE]
  have e : ((cfg0.win 8).blk t).view.emb (ix3 0 y1 y2) = ix3 (seqOf t) (rowOf t y1) y2 := by blk_ext [idx t]
  rw [e]

/-- THE KEPT ROWS. -/
theorem final9 : (dats m 0 c).arrAt 9 (cfgs 0).N = K (m ((c : Thread nD τ).loc main_arg0)) (m ((c : Thread nD τ).loc main_arg1)) := by
  refine (dats m 0 c).arrAt_eq_of_covers 9 _ (by decide +kernel) fun t hf y => ?_
  blk_simp
  rw [after0_9]
  idx_vars y
  obtain rfl : y0 = 0 := Subsingleton.elim _ _
  rw [kept m c t ((flush0_9 t).mp hf)]
  have e : ((cfg0.win 9).blk t).view.emb (ix3 0 y1 y2) = ix3 (seqOf t) y1 y2 := by blk_ext [idx t]
  rw [e]

end Cert.PoolValue

end
-- ==== Proof.PrefixSum.lean ====
/- Prefix sums, as the reference's cumulative sum prints them, and their differences: over finite rows the difference of two
   prefix sums is the sum over the window between them. -/
module

public import proofs.«01_k».proof.Proof.Sequence

@[expose] public section

noncomputable section

open Idealize.ShloMosaic

namespace Cert.Window

theorem finite_iff {x : EReal} : Finite x ↔ ∃ r : ℝ, x = (r : EReal) :=
  ⟨fun h => ⟨x.toReal, (EReal.coe_toReal h.1 h.2).symm⟩, fun ⟨r, hr⟩ => hr ▸ ⟨EReal.coe_ne_top r, EReal.coe_ne_bot r⟩⟩

theorem finite_zero : Finite 0 := ⟨EReal.zero_ne_top, EReal.zero_ne_bot⟩

theorem Finite.add {x y : EReal} (hx : Finite x) (hy : Finite y) : Finite (x + y) := by
  obtain ⟨a, rfl⟩ := finite_iff.mp hx
  obtain ⟨b, rfl⟩ := finite_iff.mp hy
  exact finite_iff.mpr ⟨a + b, (EReal.coe_add a b).symm⟩

theorem Finite.mul {x y : EReal} (hx : Finite x) (hy : Finite y) : Finite (x * y) := by
  obtain ⟨a, rfl⟩ := finite_iff.mp hx
  obtain ⟨b, rfl⟩ := finite_iff.mp hy
  exact finite_iff.mpr ⟨a * b, (EReal.coe_mul a b).symm⟩

/-- What is not zero when it is subtracted from itself is infinite, and nothing else is. -/
theorem finite_of_sub {x : EReal} (h : x - x = 0) : Finite x := by
  refine ⟨fun e => ?_, fun e => ?_⟩ <;> subst e <;> exact absurd h (by simp)

theorem finite_sum (f : ℕ → EReal) (hf : ∀ i, Finite (f i)) (n : ℕ) : Finite (∑ i ∈ Finset.range n, f i) := by
  induction n with
  | zero => exact finite_zero
  | succ n ih => rw [Finset.sum_range_succ]; exact ih.add (hf n)

theorem add_sub_first {x y : EReal} (hx : Finite x) (hy : Finite y) : x + y - x = y := by
  obtain ⟨a, rfl⟩ := finite_iff.mp hx
  obtain ⟨b, rfl⟩ := finite_iff.mp hy
  rw [← EReal.coe_add, ← EReal.coe_sub]
  exact congrArg _ (by ring)

/-- The difference of two prefix sums is the sum of the entries between them, here counted from the last one back. -/
theorem prefix_sub (f : ℕ → EReal) (hf : ∀ i, Finite (f i)) (a w : ℕ) (hw : w ≤ 16) :
    ∑ i ∈ Finset.range (a + w), f i - ∑ i ∈ Finset.range a, f i = ∑ d : Fin 16, if d.val < w then f (a + w - 1 - d.val) else 0 := by
  rw [Finset.sum_range_add, add_sub_first (finite_sum f hf a) (finite_sum _ (fun i => hf (a + i)) w),
    ← Finset.sum_range_reflect, Fin.sum_univ_eq_sum_range (fun d => if d < w then f (a + w - 1 - d) else 0) 16,
    ← Finset.sum_filter]
  have e : (Finset.range 16).filter (fun d => d < w) = Finset.range w := by
    ext d
    simp only [Finset.mem_filter, Finset.mem_range]
    omega
  rw [e]
  refine Finset.sum_congr rfl fun d hd => congrArg f ?_
  have := Finset.mem_range.mp hd
  omega

/-- A left fold of addition is the sum. -/
theorem foldl_sum {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

/-- A window of the whole length, padded low by one less, sums a prefix. -/
theorem window_prefix (f : ℕ → EReal) (M p : ℕ) (hp : p ≤ M) :
    (∑ w ∈ Finset.range (M + 1), if M ≤ p + w then f (p + w - M) else 0) = ∑ i ∈ Finset.range (p + 1), f i := by
  obtain ⟨d, rfl⟩ : ∃ d, M = p + d := ⟨M - p, by omega⟩
  rw [show p + d + 1 = d + (p + 1) by omega, Finset.sum_range_add, Finset.sum_eq_zero, zero_add]
  · refine Finset.sum_congr rfl fun i _ => ?_
    rw [if_pos (by omega), show p + (d + i) - (p + d) = i by omega]
  · intro w hw
    have := Finset.mem_range.mp hw
    exact if_neg (by omega)

/-- THE CUMULATIVE SUM along the middle axis. -/
theorem cumsum {A B C M : ℕ} (hB : M + 1 = B) (x : (⟨3, ![A, B, C]⟩ : Shape).Idx → EReal) (f : ℕ → EReal) (init : EReal) (hi : init = 0)
    (hi' : Fin 3 → ℕ) (h : (⟨3, ![A, B, C]⟩ : Shape).ReduceWindows (![1, B, 1] : Fin 3 → ℕ) ![1, 1, 1] ![0, M, 0] hi' (⟨3, ![A, B, C]⟩ : Shape))
    (s : Fin A) (p : Fin B) (j : Fin C) (hx : ∀ q : Fin B, x (ix3 s q j) = f q.val) :
    Ideal.hostReduceWindowAdd (s := ⟨3, ![A, B, C]⟩) (![1, B, 1] : Fin 3 → ℕ) ![1, 1, 1] ![0, M, 0] hi' h x init (ix3 s p j)
      = ∑ i ∈ Finset.range (p.val + 1), f i := by
  subst hB hi
  have hp := p.isLt
  unfold Ideal.hostReduceWindowAdd Host.reduceWindow
  refine (foldl_sum _ _ _).trans ?_
  rw [zero_add, ← Fin.sum_univ_def]
  have fits : ∀ y : (⟨3, ![1, M + 1, 1]⟩ : Shape).Idx, (y 0).val < 1 ∧ (y 1).val < M + 1 ∧ (y 2).val < 1 := fun y => ⟨(y 0).isLt, (y 1).isLt, (y 2).isLt⟩
  refine (Finset.sum_congr rfl fun n _ => ?_).trans ((Equiv.sum_comp (⟨3, ![1, M + 1, 1]⟩ : Shape).rowMajor.symm
    (fun y : (⟨3, ![1, M + 1, 1]⟩ : Shape).Idx => if M ≤ p.val + (y 1).val then f (p.val + (y 1).val - M) else 0)).trans ?_)
  · obtain ⟨f0, f1, f2⟩ := fits ((⟨3, ![1, M + 1, 1]⟩ : Shape).rowMajor.symm n)
    dsimp only
    split
    · next hin =>
      have h1 := (hin 1).1
      change M ≤ p.val * 1 + ((⟨3, ![1, M + 1, 1]⟩ : Shape).rowMajor.symm n 1).val at h1
      rw [if_pos (by omega)]
      refine Eq.trans (congrArg x (funext fun a => Fin.ext ?_)) (hx ⟨p.val + ((⟨3, ![1, M + 1, 1]⟩ : Shape).rowMajor.symm n 1).val - M, by omega⟩)
      match a with
      | ⟨0, _⟩ =>
        show s.val * 1 + ((⟨3, ![1, M + 1, 1]⟩ : Shape).rowMajor.symm n 0).val - 0 = s.val
        omega
      | ⟨1, _⟩ =>
        show p.val * 1 + ((⟨3, ![1, M + 1, 1]⟩ : Shape).rowMajor.symm n 1).val - M = p.val + ((⟨3, ![1, M + 1, 1]⟩ : Shape).rowMajor.symm n 1).val - M
        omega
      | ⟨2, _⟩ =>
        show j.val * 1 + ((⟨3, ![1, M + 1, 1]⟩ : Shape).rowMajor.symm n 2).val - 0 = j.val
        omega
    · next hin =>
      refine (if_neg fun hle => hin fun a => ?_).symm
      match a with
      | ⟨0, _⟩ =>
        show 0 ≤ s.val * 1 + ((⟨3, ![1, M + 1, 1]⟩ : Shape).rowMajor.symm n 0).val ∧ s.val * 1 + ((⟨3, ![1, M + 1, 1]⟩ : Shape).rowMajor.symm n 0).val - 0 < A
        omega
      | ⟨1, _⟩ =>
        show M ≤ p.val * 1 + ((⟨3, ![1, M + 1, 1]⟩ : Shape).rowMajor.symm n 1).val ∧ p.val * 1 + ((⟨3, ![1, M + 1, 1]⟩ : Shape).rowMajor.symm n 1).val - M < M + 1
        omega
      | ⟨2, _⟩ =>
        show 0 ≤ j.val * 1 + ((⟨3, ![1, M + 1, 1]⟩ : Shape).rowMajor.symm n 2).val ∧ j.val * 1 + ((⟨3, ![1, M + 1, 1]⟩ : Shape).rowMajor.symm n 2).val - 0 < C
        omega
  · rw [sum_idx3, Fin.sum_univ_one, ← window_prefix f M p.val (by omega),
      ← Fin.sum_univ_eq_sum_range (fun w => if M ≤ p.val + w then f (p.val + w - M) else 0) (M + 1)]
    exact Finset.sum_congr rfl fun w _ => Fin.sum_univ_one _

end Cert.Window

end
-- ==== Proof.PoolRef.lean ====
/- The reference of the pooling call, read at an entry: the same rows enter the same mixer, whose window sums it takes as
   differences of prefix sums, and the same tail follows. -/
module

public import proofs.«01_k».proof.Proof.Gen.Reference2Ideal.Read
public import proofs.«01_k».proof.Proof.PoolValue
public import proofs.«01_k».proof.Proof.PrefixSum

@[expose] public section

set_option maxRecDepth 16384

noncomputable section

open Idealize.ShloMosaic

namespace Cert.PoolRef

open Cert.Reference2Ideal Cert.Reference2Ideal.Gen Cert.Reference2Ideal.Read Cert.Rows Cert.Window

variable (y : Arr ⟨3, ![8, 2048, 1024]⟩) (mod : Arr ⟨3, ![2, 8, 6144]⟩)
  (g b : Arr ⟨3, ![2, 2, 1024]⟩) (pw : Arr ⟨4, ![1, 4, 256, 256]⟩) (ps : Arr ⟨2, ![1, 1024]⟩) (wu : Arr ⟨3, ![2, 1024, 5632]⟩)
  (wd : Arr ⟨3, ![2, 2816, 1024]⟩)

/-- The rows that enter the mixer. -/
theorem entered (s : Fin 8) (l : Fin 2048) (j : Fin 1024) : val_main_v14 (F := Ideal) y mod (ix3 s l j) = PoolValue.entry y mod s l j := by
  pointwise [val_main_v14, val_main_v13, val_main_v12, val_main_v11, val_main_v10, val_main_v9, val_main_v4, val_main_v3, val_main_v2,
    val_main_v1, val_main_v0, val_main_cst]
  rfl

/-- The first residual. -/
theorem res (s : Fin 8) (r : Fin 2048) (j : Fin 1024) : val_main_v84 (F := Ideal) y mod pw ps (ix3 s r j)
    = alpha * y (ix3 s r j) + part (modRow mod 1 s) 2048 (by decide) j * val_main_v78 (F := Ideal) y mod pw ps (ix3 s r j) := by
  pointwise [val_main_v84, val_main_v83, val_main_v82, val_main_v81, val_main_v80, val_main_cst_10, val_main_v5, val_main_v2,
    val_main_v1, val_main_v0]
  rfl

/-- The first norm of the residual's row. -/
theorem norm1 (s : Fin 8) (r : Fin 2048) (j : Fin 1024) : val_main_v112 (F := Ideal) y mod g b pw ps (ix3 s r j)
    = norm (fun k => val_main_v84 (F := Ideal) y mod pw ps (ix3 s r k)) (lnRow g 1 0) (lnRow b 1 0) j := by
  pointwise [val_main_v112, val_main_v111, val_main_v110, val_main_v109, val_main_v108, val_main_v107, val_main_v106,
    val_main_v105, val_main_v104, val_main_v103, val_main_v102, val_main_v101, val_main_v100, val_main_v99, val_main_v98,
    val_main_v97, val_main_v96, val_main_v95, val_main_v94, val_main_v93, val_main_v92, val_main_v91, val_main_v90,
    val_main_v89, val_main_v88, val_main_v87, val_main_v86, val_main_v85, val_main_cst_11, val_main_cst_12,
    val_main_cst_13, val_main_cst_14, val_main_cst_15]
  rfl

/-- The row that enters the feed-forward block. -/
theorem ent (s : Fin 8) (r : Fin 2048) (k : Fin 1024) : val_main_v118 (F := Ideal) y mod g b pw ps (ix3 s r k)
    = enter (fun k => val_main_v112 (F := Ideal) y mod g b pw ps (ix3 s r k)) (modRow mod 1 s) k := by
  pointwise [val_main_v118, val_main_v117, val_main_v116, val_main_v115, val_main_v114, val_main_v113, val_main_cst_16,
    val_main_v7, val_main_v6, val_main_v2, val_main_v1, val_main_v0]
  rfl

/-- The widened row. -/
theorem wid (s : Fin 8) (r : Fin 2048) (q : Fin 5632) : val_main_v125 (F := Ideal) y mod g b pw ps wu (ix3 s r q)
    = widen (fun k => val_main_v118 (F := Ideal) y mod g b pw ps (ix3 s r k)) (wideAt wu 1) q := by
  pointwise [val_main_v125, val_main_v122, val_main_v121]
  rfl

/-- A hidden unit. -/
theorem hid (s : Fin 8) (r : Fin 2048) (q : Fin 2816) : val_main_v129 (F := Ideal) y mod g b pw ps wu (ix3 s r q)
    = hidden (fun k => val_main_v118 (F := Ideal) y mod g b pw ps (ix3 s r k)) (wideAt wu 1) q := by
  pointwise [val_main_v129, val_main_v128, val_main_call1_v5, val_main_call1_v4, val_main_call1_v3, val_main_call1_v2,
    val_main_call1_v1, val_main_call1_v0, val_main_call1_cst, val_main_call1_cst_0, val_main_v127, val_main_v126]
  rw [wid, wid]
  rfl

/-- The second residual. -/
theorem res2 (s : Fin 8) (r : Fin 2048) (j : Fin 1024) : val_main_v133 (F := Ideal) y mod g b pw ps wu wd (ix3 s r j)
    = alpha * val_main_v112 (F := Ideal) y mod g b pw ps (ix3 s r j) + part (modRow mod 1 s) 5120 (by decide) j
        * ∑ q : Fin 2816, val_main_v129 (F := Ideal) y mod g b pw ps wu (ix3 s r q) * narrowAt wd 1 q j := by
  pointwise [val_main_v133, val_main_v132, val_main_v131, val_main_v130, val_main_v124, val_main_v123, val_main_v120,
    val_main_v119, val_main_cst_17, val_main_v8, val_main_v2, val_main_v1, val_main_v0]
  rfl

/-- The second norm of the second residual's row. -/
theorem norm2 (s : Fin 8) (r : Fin 2048) (j : Fin 1024) : val_main_v161 (F := Ideal) y mod g b pw ps wu wd (ix3 s r j)
    = norm (fun k => val_main_v133 (F := Ideal) y mod g b pw ps wu wd (ix3 s r k)) (lnRow g 1 1) (lnRow b 1 1) j := by
  pointwise [val_main_v161, val_main_v160, val_main_v159, val_main_v158, val_main_v157, val_main_v156, val_main_v155,
    val_main_v154, val_main_v153, val_main_v152, val_main_v151, val_main_v150, val_main_v149, val_main_v148, val_main_v147,
    val_main_v146, val_main_v145, val_main_v144, val_main_v143, val_main_v142, val_main_v141, val_main_v140, val_main_v139,
    val_main_v138, val_main_v137, val_main_v136, val_main_v135, val_main_v134, val_main_cst_18, val_main_cst_19,
    val_main_cst_20, val_main_cst_21, val_main_cst_22]
  rfl

end Cert.PoolRef

end
-- ==== Proof.PoolWindow.lean ====
/- The reference's window means: differences of the cumulative sum over the sequence with fifteen rows of zeros before it. -/
module

public import proofs.«01_k».proof.Proof.PoolRef

@[expose] public section

set_option maxRecDepth 16384

noncomputable section

open Idealize.ShloMosaic

namespace Cert.PoolRef

open Cert.Reference2Ideal Cert.Reference2Ideal.Gen Cert.Reference2Ideal.Read Cert.Rows Cert.Window

/-- Column `j` of a sequence with fifteen rows of zeros before it (and zeros after it). -/
def padded (u : Fin 2048 → Fin 1024 → EReal) (j : Fin 1024) (p : ℕ) : EReal :=
  if h : 15 ≤ p ∧ p < 2063 then u ⟨p - 15, by omega⟩ j else 0

theorem padded_finite {u : Fin 2048 → Fin 1024 → EReal} (hu : ∀ l j, Finite (u l j)) (j : Fin 1024) (p : ℕ) : Finite (padded u j p) := by
  unfold padded
  split_ifs
  · exact hu _ _
  · exact finite_zero

/-- The window's sum from the prefix sums. -/
theorem window_sum {u : Fin 2048 → Fin 1024 → EReal} (hu : ∀ l j, Finite (u l j)) (l : Fin 2048) (j : Fin 1024) (w : ℕ) (hw : w ≤ 16) (h0 : 0 < w) :
    ∑ i ∈ Finset.range (16 + l.val), padded u j i - ∑ i ∈ Finset.range (16 - w + l.val), padded u j i
      = ∑ d : Fin 16, if d.val < w ∧ d.val ≤ l.val then u ⟨l.val - d.val, by omega⟩ j else 0 := by
  rw [show 16 + l.val = 16 - w + l.val + w by omega, prefix_sub _ (padded_finite hu j) _ _ hw]
  refine Finset.sum_congr rfl fun d _ => ?_
  by_cases hd : d.val < w
  · rw [if_pos hd]
    unfold padded
    by_cases hl : d.val ≤ l.val
    · rw [if_pos ⟨hd, hl⟩]
      refine (dif_pos (by omega)).trans (congrArg (fun r => u r j) (Fin.ext ?_))
      show 16 - w + l.val + w - 1 - d.val - 15 = l.val - d.val
      omega
    · rw [if_neg (fun h => hl h.2)]
      exact dif_neg (by omega)
  · rw [if_neg hd, if_neg (fun h => hd h.1)]

theorem count_ne_zero (w l : ℕ) (h : 0 < w) : Window.count w l ≠ 0 := by
  unfold Window.count
  have : ((((min (l + 1) w : ℕ) : ℤ) : ℝ)) ≠ 0 := by
    have h1 : 0 < min (l + 1) w := by omega
    exact_mod_cast h1.ne'
  exact_mod_cast this

/-- The word arithmetic of the count. -/
theorem count_of (l : Fin 2048) (w : BitVec 32) (w' : ℕ) (hw : w = BitVec.ofNat 32 w') (hw' : w' ≤ 16) :
    (FloatOps.sitofp FTy.f32 (IntOp.minsi (IntOp.addi (IntOp.addi 0#32 (BitVec.ofNat 32 l.val)) 1#32) w) : Ideal .f32) = count w' l.val := by
  subst hw
  have e : IntOp.addi (IntOp.addi 0#32 (BitVec.ofNat 32 l.val)) 1#32 = BitVec.ofNat 32 (l.val + 1) := by
    apply BitVec.eq_of_toNat_eq
    show ((0#32 + BitVec.ofNat 32 l.val) + 1#32).toNat = _
    simp only [BitVec.toNat_add, BitVec.toNat_ofNat]
    omega
  rw [e]
  have hm := minsi_small (l.val + 1) w' (by omega) (by omega)
  show (((IntOp.minsi _ _).toInt : ℝ) : EReal) = _
  rw [hm]
  rfl

/-- A column's window mean: the sum of its window over the number of rows in it. -/
def mean (u : Fin 2048 → Fin 1024 → EReal) (l : Fin 2048) (j : Fin 1024) : EReal :=
  Ideal.div (∑ d : Fin 16, if d.val < Window.width j.val ∧ d.val ≤ l.val then u ⟨l.val - d.val, by omega⟩ j else 0) (Window.count (Window.width j.val) l.val)

theorem pool_eq (u : Fin 2048 → Fin 1024 → EReal) (l : Fin 2048) (j : Fin 1024) : Window.pool u l j = mean u l j - u l j := by
  unfold Window.pool mean
  rw [Ideal.mul_one_div (count_ne_zero _ _ (Nat.pos_of_ne_zero (by unfold Window.width; positivity)))]

variable (y : Arr ⟨3, ![8, 2048, 1024]⟩) (mod : Arr ⟨3, ![2, 8, 6144]⟩) (pw : Arr ⟨4, ![1, 4, 256, 256]⟩) (ps : Arr ⟨2, ![1, 1024]⟩)

/-- The sequence with its fifteen rows of zeros. -/
theorem ext_at (s : Fin 8) (p : Fin 2063) (j : Fin 1024) :
    val_main_v18 (F := Ideal) y mod (ix3 s p j) = padded (PoolValue.entry y mod s) j p.val := by
  pointwise [val_main_v18, val_main_v15, val_main_cst_0]
  unfold padded
  by_cases h : p.val < 15
  · rw [dif_pos h, dif_neg (by omega)]
  · rw [dif_neg h, dif_pos (by omega), entered]

/-- The cumulative sum. -/
theorem cum_at (s : Fin 8) (p : Fin 2063) (j : Fin 1024) :
    val_main_v20 (F := Ideal) y mod (ix3 s p j) = ∑ i ∈ Finset.range (p.val + 1), padded (PoolValue.entry y mod s) j i := by
  unfold val_main_v20 Host.reduceWindowAdd
  refine (cumsum (A := 8) (B := 2063) (C := 1024) (M := 2062) rfl (val_main_v18 (F := Ideal) y mod) (padded (PoolValue.entry y mod s) j) _ ?_ _ _ s p j
    fun q => ext_at y mod s q j)
  pointwise [val_main_call0_call0_v0, val_main_call0_call0_cst]

/-- The cumulative sum after a row of zeros: the sum of what stands before row `p`. -/
theorem sum_at (s : Fin 8) (p : Fin 2064) (j : Fin 1024) :
    val_main_v21 (F := Ideal) y mod (ix3 s p j) = ∑ i ∈ Finset.range p.val, padded (PoolValue.entry y mod s) j i := by
  pointwise [val_main_v21, val_main_v19, val_main_cst_1]
  by_cases h : p.val < 1
  · rw [dif_pos h, show p.val = 0 by omega]
    rfl
  · rw [dif_neg h, cum_at, show (⟨p.val - 1, by omega⟩ : Fin 2063).val + 1 = p.val by show p.val - 1 + 1 = p.val; omega]

/-- The means of column group 0. -/
theorem mean0 (hu : ∀ s l j, Finite (PoolValue.entry y mod s l j)) (s : Fin 8) (l : Fin 2048) (k : Fin 256) (j : Fin 1024) (hj : j.val = k.val) :
    val_main_v36 (F := Ideal) y mod (ix3 s l k) = mean (PoolValue.entry y mod s) l j := by
  have hw : Window.width j.val = 2 := by unfold Window.width; rw [show j.val / 256 = 0 by omega]; rfl
  pointwise [val_main_v36, val_main_v35, val_main_v34, val_main_v33, val_main_v32, val_main_v31, val_main_v30, val_main_v29, val_main_v28, val_main_v27, val_main_v26,
    val_main_v22, val_main_v23, val_main_v24, val_main_v25, val_main_c, val_main_c_2, val_main_c_3]
  rw [sum_at, sum_at, count_of l _ 2 rfl (by decide)]
  unfold mean
  rw [hw, ← window_sum (hu s) l j 2 (by decide) (by decide), show j = ⟨k.val, by omega⟩ from Fin.ext hj]

/-- The means of column group 1. -/
theorem mean1 (hu : ∀ s l j, Finite (PoolValue.entry y mod s l j)) (s : Fin 8) (l : Fin 2048) (k : Fin 256) (j : Fin 1024) (hj : j.val = 256 + k.val) :
    val_main_v47 (F := Ideal) y mod (ix3 s l k) = mean (PoolValue.entry y mod s) l j := by
  have hw : Window.width j.val = 4 := by unfold Window.width; rw [show j.val / 256 = 1 by omega]; rfl
  pointwise [val_main_v47, val_main_v46, val_main_v45, val_main_v44, val_main_v43, val_main_v42, val_main_v41, val_main_v40, val_main_v39, val_main_v38, val_main_v37,
    val_main_v22, val_main_v23, val_main_v24, val_main_v25, val_main_c, val_main_c_4, val_main_c_5]
  rw [sum_at, sum_at, count_of l _ 4 rfl (by decide)]
  unfold mean
  rw [hw, ← window_sum (hu s) l j 4 (by decide) (by decide), show j = ⟨256 + k.val, by omega⟩ from Fin.ext hj]

/-- The means of column group 2. -/
theorem mean2 (hu : ∀ s l j, Finite (PoolValue.entry y mod s l j)) (s : Fin 8) (l : Fin 2048) (k : Fin 256) (j : Fin 1024) (hj : j.val = 512 + k.val) :
    val_main_v58 (F := Ideal) y mod (ix3 s l k) = mean (PoolValue.entry y mod s) l j := by
  have hw : Window.width j.val = 8 := by unfold Window.width; rw [show j.val / 256 = 2 by omega]; rfl
  pointwise [val_main_v58, val_main_v57, val_main_v56, val_main_v55, val_main_v54, val_main_v53, val_main_v52, val_main_v51, val_main_v50, val_main_v49, val_main_v48,
    val_main_v22, val_main_v23, val_main_v24, val_main_v25, val_main_c, val_main_c_6, val_main_c_7]
  rw [sum_at, sum_at, count_of l _ 8 rfl (by decide)]
  unfold mean
  rw [hw, ← window_sum (hu s) l j 8 (by decide) (by decide), show j = ⟨512 + k.val, by omega⟩ from Fin.ext hj]

/-- The means of column group 3. -/
theorem mean3 (hu : ∀ s l j, Finite (PoolValue.entry y mod s l j)) (s : Fin 8) (l : Fin 2048) (k : Fin 256) (j : Fin 1024) (hj : j.val = 768 + k.val) :
    val_main_v69 (F := Ideal) y mod (ix3 s l k) = mean (PoolValue.entry y mod s) l j := by
  have hw : Window.width j.val = 16 := by unfold Window.width; rw [show j.val / 256 = 3 by omega]; rfl
  pointwise [val_main_v69, val_main_v68, val_main_v67, val_main_v66, val_main_v65, val_main_v64, val_main_v63, val_main_v62, val_main_v61, val_main_v60, val_main_v59,
    val_main_v22, val_main_v23, val_main_v24, val_main_v25, val_main_c, val_main_c_8, val_main_c_9]
  rw [sum_at, sum_at, count_of l _ 16 rfl (by decide)]
  unfold mean
  rw [hw, ← window_sum (hu s) l j 16 (by decide) (by decide), show j = ⟨768 + k.val, by omega⟩ from Fin.ext hj]
  rw [show 16 - 16 + l.val = l.val by omega]

/-- The window means less the rows themselves. -/
theorem pooled_at (hu : ∀ s l j, Finite (PoolValue.entry y mod s l j)) (s : Fin 8) (l : Fin 2048) (j : Fin 1024) :
    val_main_v71 (F := Ideal) y mod (ix3 s l j) = Window.pool (PoolValue.entry y mod s) l j := by
  rw [pool_eq]
  pointwise [val_main_v71, val_main_v70]
  rw [entered]
  refine congrArg (· - _) ?_
  by_cases h0 : j.val < 256
  · rw [dif_pos h0]
    exact mean0 y mod hu s l _ j rfl
  rw [dif_neg h0]
  by_cases h1 : j.val - 256 < 256
  · rw [dif_pos h1]
    exact mean1 y mod hu s l _ j (by show j.val = 256 + (j.val - 256); omega)
  rw [dif_neg h1]
  by_cases h2 : j.val - 256 - 256 < 256
  · rw [dif_pos h2]
    exact mean2 y mod hu s l _ j (by show j.val = 512 + (j.val - 256 - 256); omega)
  rw [dif_neg h2]
  exact mean3 y mod hu s l _ j (by show j.val = 768 + (j.val - 256 - 256 - 256); omega)

/-- The mixer's output. -/
theorem mixed_at (hu : ∀ s l j, Finite (PoolValue.entry y mod s l j)) (s : Fin 8) (l : Fin 2048) (j : Fin 1024) :
    val_main_v78 (F := Ideal) y mod pw ps (ix3 s l j) = PoolValue.mixed y mod pw ps s l j := by
  pointwise [val_main_v78, val_main_v77, val_main_v76, val_main_v75, val_main_v74, val_main_v73, val_main_v72, val_main_v17, val_main_v16]
  unfold PoolValue.mixed Window.mix
  refine congrArg (· * _) (Finset.sum_congr rfl fun c _ => ?_)
  rw [pooled_at y mod hu, mul_comm]
  exact congrArg (fun q => Window.pool (PoolValue.entry y mod s) l q * _) (Fin.ext (by show j.val / 256 * 256 + c.val = 256 * (j.val / 256) + c.val; omega))

/-- The kept rows. -/
theorem kept : val_main_v79 (F := Ideal) y mod = PoolValue.K y mod := by
  funext i
  idx_vars i
  pointwise [val_main_v79]
  rw [ext_at]
  refine (dif_pos (by show 15 ≤ 2047 + i1.val ∧ 2047 + i1.val < 2063; omega)).trans ?_
  exact congrArg (fun l => PoolValue.entry y mod i0 l i2) (Fin.ext (by show 2047 + i1.val - 15 = 2032 + i1.val; omega))

variable (g b : Arr ⟨3, ![2, 2, 1024]⟩) (wu : Arr ⟨3, ![2, 1024, 5632]⟩) (wd : Arr ⟨3, ![2, 2816, 1024]⟩)

/-- The layer's output. -/
theorem result (hu : ∀ s l j, Finite (PoolValue.entry y mod s l j)) :
    val_main_v161 (F := Ideal) y mod g b pw ps wu wd = PoolValue.G y mod g b pw ps wu wd := by
  funext i
  idx_vars i
  rw [norm2]
  unfold PoolValue.G tail last ffn mid
  simp only [res2, hid, ent, norm1, res, mixed_at y mod pw ps hu]
  rfl

end Cert.PoolRef

end
-- ==== Proof.PoolClaim.lean ====
/- The pooling call and its reference end with equal results, where the layer's input and its mixer's modulation are finite. -/
module

public import proofs.«01_k».proof.Defs
public import proofs.«01_k».proof.Proof.Gen.Pre_finite
public import proofs.«01_k».proof.Proof.Gen.Reference2Ideal.Run
public import proofs.«01_k».proof.Proof.PoolPoint
public import proofs.«01_k».proof.Proof.PoolWindow
public import Idealize.ShloMosaic.Lib.ReduceAll

@[expose] public section

set_option maxRecDepth 16384

noncomputable section

namespace Cert.PoolClaim

open Idealize.ShloMosaic Idealize.SL.Sem Cert.Window

/-- Whatever, less itself, compares equal to zero is finite. -/
theorem finite_of_cmp {s : Shape} (x : FVec Ideal s .f32) (hb) (i : s.Idx)
    (h : cmpf .oeq (subf x x) (broadcastInDim s ![] hb (constant (F := Ideal) ⟨0, ![]⟩ .f32 0x00000000#32)) i = 1#1) : Finite (x i) := by
  have h' : Ideal.cmp .oeq (x i - x i) (Ideal.ofBits .f32 0x00000000#32) = 1#1 := h
  rw [show Ideal.ofBits .f32 0x00000000#32 = (0 : EReal) from Ideal.ofBits_zero_f32] at h'
  refine finite_of_sub ?_
  by_contra hx
  exact absurd h' (by simp [Ideal.cmp, hx])

theorem and_one (a b : BitVec 1) (h : a &&& b = 1#1) : a = 1#1 ∧ b = 1#1 := by
  revert a b
  decide

open Cert.Pre_finite Cert.Pre_finite.Facts in
/-- What the precondition says of the arrays. -/
theorem halves [Cert.Pre_finite.Facts] (y : FVec Ideal S8x2048x1024 .f32) (mod : FVec Ideal S2x8x6144 .f32) (g b : FVec Ideal S2x2x1024 .f32)
    (pw : FVec Ideal S1x4x256x256 .f32) (ps : FVec Ideal S1x1024 .f32) (wu : FVec Ideal S2x1024x5632 .f32) (wd : FVec Ideal S2x2816x1024 .f32)
    (h : Cert.Pre_finite.fn (F := Ideal) y mod g b pw ps wu wd = fun _ => 1#1) :
    (∀ i, Finite (y i)) ∧ ∀ (s : Fin 8) (q : Fin 2048), Finite (mod (ix3 1 s ⟨q.val, by omega⟩)) := by
  have h0 := congrFun h (Shape.Idx.first h_S_)
  unfold Cert.Pre_finite.fn at h0
  obtain ⟨h1, h2⟩ := and_one _ _ h0
  haveI : Subsingleton S_.Idx := ⟨fun a b => funext fun x => x.elim0⟩
  refine ⟨fun i => finite_of_cmp _ _ _ (Host.reduce_andi_all _ _ _ _ _ h1 i), fun s q => ?_⟩
  have h3 := Host.reduce_andi_all _ _ _ _ _ h2 (ix2 s q)
  have e : shapeCast S8x2048 (extractStridedSlice S1x8x2048 ![1, 0, 0] mod slices_S2x8x6144_S1x8x2048_1_0_0) shapeCasts_S1x8x2048_S8x2048 (ix2 s q)
      = mod (ix3 1 s ⟨q.val, by omega⟩) := by
    pointwise []
  rw [← e]
  exact finite_of_cmp _ _ _ h3

theorem finite_one : Finite (1 : EReal) := finite_iff.mpr ⟨1, EReal.coe_one.symm⟩

/-- The rows that enter the mixer are finite. -/
theorem entry_finite (y : Rows.Arr ⟨3, ![8, 2048, 1024]⟩) (mod : Rows.Arr ⟨3, ![2, 8, 6144]⟩) (hy : ∀ i, Finite (y i))
    (hm : ∀ (s : Fin 8) (q : Fin 2048), Finite (mod (ix3 1 s ⟨q.val, by omega⟩))) (s : Fin 8) (l : Fin 2048) (j : Fin 1024) :
    Finite (PoolValue.entry y mod s l j) :=
  ((hy _).mul (finite_one.add (hm s ⟨1024 + j.val, by omega⟩))).add (hm s ⟨j.val, by omega⟩)

/-- … of the run. -/
theorem entered_finite (m : (ℓ : Loc Kernel2Ideal.nD Kernel2Ideal.τ Kernel2Ideal.sig) → Buf (Elt Ideal) ℓ) (c : Dev Kernel2Ideal.nD)
    (h : Cert.Pre_finite.fn (F := Ideal) (m (c.tc.loc Kernel2Ideal.main_arg0)) (m (c.tc.loc Kernel2Ideal.main_arg1))
      (m (c.tc.loc Kernel2Ideal.main_arg2)) (m (c.tc.loc Kernel2Ideal.main_arg3)) (m (c.tc.loc Kernel2Ideal.main_arg4))
      (m (c.tc.loc Kernel2Ideal.main_arg5)) (m (c.tc.loc Kernel2Ideal.main_arg6)) (m (c.tc.loc Kernel2Ideal.main_arg7)) = fun _ => 1#1)
    (s : Fin 8) (l : Fin 2048) (j : Fin 1024) :
    Finite (PoolValue.entry (m (c.tc.loc Kernel2Ideal.main_arg0)) (m (c.tc.loc Kernel2Ideal.main_arg1)) s l j) :=
  entry_finite _ _ (halves _ _ _ _ _ _ _ _ h).1 (halves _ _ _ _ _ _ _ _ h).2 s l j

set_option maxHeartbeats 1600000 in
theorem algebraic : Cert.algebraic_Kernel2Ideal_Reference2Ideal_pre_finite := by
  pair_intro
  · run_from Cert.Kernel2Ideal.Gen.run_main m g
  · run_from Cert.Reference2Ideal.Value.run m' g'
    · obtain ⟨h0, h1, h2, h3, h4, h5, h6, h7⟩ := hagree c
      have hu := entered_finite m c (hpre c)
      refine Eq.trans ?_ (Cert.PoolValue.final8 m c fun t p j => extOf_finite (hu _) _ p j).symm
      rw [← h0, ← h1] at hu
      rw [← h0, ← h1, ← h2, ← h3, ← h4, ← h5, ← h6, ← h7]
      exact (Cert.Reference2Ideal.Read.val_main_v161_eq (F := Ideal) (StableHlo.launchContents m' c)).trans
        (Cert.PoolRef.result _ _ _ _ _ _ _ _ hu)
    · obtain ⟨h0, h1, h2, h3, h4, h5, h6, h7⟩ := hagree c
      refine Eq.trans ?_ (Cert.PoolValue.final9 m c).symm
      rw [← h0, ← h1]
      exact (Cert.Reference2Ideal.Read.val_main_v79_eq (F := Ideal) (StableHlo.launchContents m' c)).trans (Cert.PoolRef.kept _ _)

end Cert.PoolClaim

end
-- ==== Proof.StepBlock.lean ====
/- What the pooling step's body stores in its first output, row by row: the mixer's row from the fifteen rows kept and the row
   that enters, and the layer's tail (`Rows.mid`, `Rows.last`) of it. The body adds a window's rows one by one, from the newest
   to the oldest, and sums the feed-forward block's hidden units in two pieces. -/
module

public import proofs.«01_k».proof.Proof.Gen.Kernel4Ideal.Skeleton
public import proofs.«01_k».proof.Proof.Rows
public import proofs.«01_k».proof.Proof.Window
public import Idealize.ShloMosaic.Lib.Pointwise
public import Idealize.ShloMosaic.Lib.Pipeline.ValueKit

@[expose] public section

set_option maxRecDepth 16384

noncomputable section

open Idealize.ShloMosaic

namespace Cert.StepBlock

open Cert.Kernel4Ideal Cert.Kernel4Ideal.Gen Cert.Rows

/-- Column `j` of the rows kept, oldest first, and of the row that enters after them. -/
def hist (u : Row) (st : Fin 15 → Row) (j : Fin 1024) (p : ℕ) : EReal := if h : p < 15 then st ⟨p, h⟩ j else u j

/-- A column's window mean: the sum of the newest rows, as many as its window is wide, over that number. -/
def mean (u : Row) (st : Fin 15 → Row) (j : Fin 1024) : EReal :=
  Ideal.div (∑ d : Fin 16, if d.val < Window.width j.val then hist u st j (15 - d.val) else 0) ((((Window.width j.val : ℕ) : ℤ) : ℝ) : EReal)

/-- The row that is projected. -/
def pooled (u : Row) (st : Fin 15 → Row) : Row := fun j => mean u st j - u j

theorem sum2 (f : ℕ → EReal) : (∑ d : Fin 16, if d.val < 2 then f (15 - d.val) else 0) = f 15 + f 14 := by
  rw [Fin.sum_univ_eq_sum_range (fun d => if d < 2 then f (15 - d) else 0) 16]
  simp [Finset.sum_range_succ]

theorem sum4 (f : ℕ → EReal) : (∑ d : Fin 16, if d.val < 4 then f (15 - d.val) else 0) = f 15 + f 14 + f 13 + f 12 := by
  rw [Fin.sum_univ_eq_sum_range (fun d => if d < 4 then f (15 - d) else 0) 16]
  simp [Finset.sum_range_succ]

theorem sum8 (f : ℕ → EReal) : (∑ d : Fin 16, if d.val < 8 then f (15 - d.val) else 0)
    = f 15 + f 14 + f 13 + f 12 + f 11 + f 10 + f 9 + f 8 := by
  rw [Fin.sum_univ_eq_sum_range (fun d => if d < 8 then f (15 - d) else 0) 16]
  simp [Finset.sum_range_succ]

theorem sum16 (f : ℕ → EReal) : (∑ d : Fin 16, if d.val < 16 then f (15 - d.val) else 0)
    = f 15 + f 14 + f 13 + f 12 + f 11 + f 10 + f 9 + f 8 + f 7 + f 6 + f 5 + f 4 + f 3 + f 2 + f 1 + f 0 := by
  rw [Fin.sum_univ_eq_sum_range (fun d => if d < 16 then f (15 - d) else 0) 16]
  simp [Finset.sum_range_succ]

theorem lit2 : Ideal.ofBits .f32 0x40000000#32 = ((((2 : ℕ) : ℤ) : ℝ) : EReal) := by
  simp [Ideal.ofBits, Ideal.ieee, -EReal.coe_mul]; norm_num

theorem lit4 : Ideal.ofBits .f32 0x40800000#32 = ((((4 : ℕ) : ℤ) : ℝ) : EReal) := by
  simp [Ideal.ofBits, Ideal.ieee, -EReal.coe_mul]; norm_num

theorem lit8 : Ideal.ofBits .f32 0x41000000#32 = ((((8 : ℕ) : ℤ) : ℝ) : EReal) := by
  simp [Ideal.ofBits, Ideal.ieee, -EReal.coe_mul]; norm_num

theorem lit16 : Ideal.ofBits .f32 0x41800000#32 = ((((16 : ℕ) : ℤ) : ℝ) : EReal) := by
  simp [Ideal.ofBits, Ideal.ieee, -EReal.coe_mul]; norm_num

/-- The pieces in which the body loads the two matrices. -/
structure Pieces (wu : Fin 1024 → Fin 5632 → EReal) (wd : Fin 2816 → Fin 1024 → EReal)
    (a0 a1 : Vec Ideal S1x1024x1536 .bf16) (d0 : Vec Ideal S1x1536x1024 .bf16)
    (a2 a3 : Vec Ideal S1x1024x1280 .bf16) (d1 : Vec Ideal S1x1280x1024 .bf16) : Prop where
  h0 : ∀ k q, a0 (ix3 0 k q) = wu k ⟨q.val, by omega⟩
  h1 : ∀ k q, a1 (ix3 0 k q) = wu k ⟨2816 + q.val, by omega⟩
  h2 : ∀ k q, a2 (ix3 0 k q) = wu k ⟨1536 + q.val, by omega⟩
  h3 : ∀ k q, a3 (ix3 0 k q) = wu k ⟨4352 + q.val, by omega⟩
  e0 : ∀ q j, d0 (ix3 0 q j) = wd ⟨q.val, by omega⟩ j
  e1 : ∀ q j, d1 (ix3 0 q j) = wd ⟨1536 + q.val, by omega⟩ j

section block

variable (x0 : Vec Ideal S1x128x1024 .f32) (x1 : Vec Ideal S1x128x6144 .f32) (x2 : Vec Ideal S4x1024 .f32)
  (h : FVec Ideal S128x1024 .f32)

/-- Row `r` of the modulation. -/
abbrev modOf (r : Fin 128) : Fin 6144 → EReal := fun q => x1 (ix3 0 r q)

/-- Row `r` as it enters the mixer. -/
abbrev entry (r : Fin 128) : Row := fun j =>
  x0 (ix3 0 r j) * (1 + modOf x1 r ⟨1024 + j.val, by omega⟩) + modOf x1 r ⟨j.val, by omega⟩

theorem entry_at (r : Fin 128) (j : Fin 1024) : k0_pay4 x0 x1 (ix2 r j) = entry x0 x1 r j := by
  pointwise [k0_pay4, k0_pay2, k0_pay3]

/-- Row `r` after the first norm. -/
abbrev midRow (r : Fin 128) : Row :=
  mid (fun k => x0 (ix3 0 r k)) (fun k => h (ix2 r k)) (modOf x1 r) (fun k => x2 (ix2 0 k)) (fun k => x2 (ix2 1 k))

theorem mid_at (r : Fin 128) (j : Fin 1024) :
    k0_pay18 (k0_pay2 x0) h (k0_pay14 x2) (k0_pay15 (k0_pay3 x1)) (ix2 r j) = midRow x0 x1 x2 h r j := by
  pointwise [k0_pay18, k0_pay2, k0_pay14, k0_pay15, k0_pay3]
  rfl

theorem enter_at (r : Fin 128) (k : Fin 1024) :
    k0_pay19 (k0_pay2 x0) (k0_pay3 x1) h (k0_pay14 x2) (k0_pay15 (k0_pay3 x1)) (k0_pay16 (k0_pay3 x1)) (ix2 r k)
      = enter (midRow x0 x1 x2 h r) (modOf x1 r) k := by
  have hm := mid_at x0 x1 x2 h r k
  pointwise [k0_pay19, k0_pay16, k0_pay3]
  rw [← k0_pay3, hm]
  rfl

variable {wu : Fin 1024 → Fin 5632 → EReal} {wd : Fin 2816 → Fin 1024 → EReal}
  {a0 a1 : Vec Ideal S1x1024x1536 .bf16} {d0 : Vec Ideal S1x1536x1024 .bf16}
  {a2 a3 : Vec Ideal S1x1024x1280 .bf16} {d1 : Vec Ideal S1x1280x1024 .bf16}

/-- The first hidden units. -/
theorem hid_at (hp : Pieces wu wd a0 a1 d0 a2 a3 d1) (r : Fin 128) (q : Fin 1536) :
    k0_pay20 (k0_pay2 x0) (k0_pay3 x1) h (k0_pay14 x2) (k0_pay15 (k0_pay3 x1)) (k0_pay16 (k0_pay3 x1)) a0 a1 (ix2 r q)
      = hidden (enter (midRow x0 x1 x2 h r) (modOf x1 r)) wu ⟨q.val, by omega⟩ := by
  have he := enter_at x0 x1 x2 h r
  pointwise [k0_pay20]
  simp only [he, hp.h0, hp.h1]
  rfl

set_option maxHeartbeats 1600000 in
/-- The last norm over the two pieces of the feed-forward sum. -/
theorem store_at (v131 z : FVec Ideal S128x1024 .f32) (e : FVec Ideal S128x1024 .bf16) (f : FVec Ideal S128x1536 .bf16)
    (hp : Pieces wu wd a0 a1 d0 a2 a3 d1) (r : Fin 128) (j : Fin 1024) :
    k0_pay24 (k0_pay21 (k0_pay14 x2)) (k0_pay22 v131 z e f d0 a2 a3 d1) (k0_pay23 (k0_pay14 x2)) (ix3 0 r j)
      = norm (fun k => alpha * z (ix2 r k) + v131 (ix2 r k) * (∑ q : Fin 1536, f (ix2 r q) * wd ⟨q.val, by omega⟩ k
            + ∑ q : Fin 1280, unit (fun k => e (ix2 r k)) wu ⟨1536 + q.val, by omega⟩ ⟨4352 + q.val, by omega⟩ * wd ⟨1536 + q.val, by omega⟩ k))
          (fun k => x2 (ix2 2 k)) (fun k => x2 (ix2 3 k)) j := by
  pointwise [k0_pay24, k0_pay21, k0_pay22, k0_pay23, k0_pay14]
  simp only [hp.h2, hp.h3, hp.e0, hp.e1]
  rfl

/-- THE STORE, whatever the mixer's output. -/
theorem out_apply (hp : Pieces wu wd a0 a1 d0 a2 a3 d1) (r : Fin 128) (j : Fin 1024) :
    k0_pay24 (k0_pay21 (k0_pay14 x2))
        (k0_pay22 (k0_pay17 (k0_pay3 x1)) (k0_pay18 (k0_pay2 x0) h (k0_pay14 x2) (k0_pay15 (k0_pay3 x1)))
          (k0_pay19 (k0_pay2 x0) (k0_pay3 x1) h (k0_pay14 x2) (k0_pay15 (k0_pay3 x1)) (k0_pay16 (k0_pay3 x1)))
          (k0_pay20 (k0_pay2 x0) (k0_pay3 x1) h (k0_pay14 x2) (k0_pay15 (k0_pay3 x1)) (k0_pay16 (k0_pay3 x1)) a0 a1)
          d0 a2 a3 d1) (k0_pay23 (k0_pay14 x2)) (ix3 0 r j)
      = last (midRow x0 x1 x2 h r) (modOf x1 r) (fun k => x2 (ix2 2 k)) (fun k => x2 (ix2 3 k)) wu wd j := by
  rw [store_at x2 _ _ _ _ hp]
  have hg : ∀ k, k0_pay17 (k0_pay3 x1) (ix2 r k) = part (modOf x1 r) 5120 (by decide) k := by
    intro k; pointwise [k0_pay17, k0_pay3]; rfl
  simp only [mid_at, enter_at, hid_at x0 x1 x2 h hp, hg]
  unfold last
  simp only [ffn_two]

end block

section mixer

variable (x0 : Vec Ideal S1x128x1024 .f32) (x1 : Vec Ideal S1x128x6144 .f32) (st : Fin 128 → Fin 15 → Row)

/-- What is projected, from the four groups of means (the last one still to be summed and divided). -/
def less (v9 : FVec Ideal S128x1024 .f32) (v15 v27 v51 v91 v93 : FVec Ideal S128x256 .f32) (v95 : Vec Ideal S1x128x256 .f32) : FVec Ideal S128x1024 .f32 :=
  have v94 : FVec Ideal S128x256 .f32 := addf v91 v93
  have v96 : FVec Ideal S128x256 .f32 := shapeCast S128x256 v95 shapeCasts_S1x128x256_S128x256
  have v97 : FVec Ideal S128x256 .f32 := addf v94 v96
  have cst_69 : Ideal .f32 := Scalar.ofBits .f32 0x41800000#32
  have v98 : FVec Ideal S128x256 .f32 := broadcast S128x256 cst_69
  have v99 : FVec Ideal S128x256 .f32 := divf v97 v98
  have v100 : FVec Ideal S128x1024 .f32 := concatenate S128x1024 1 [⟨S128x256, v15⟩, ⟨S128x256, v27⟩, ⟨S128x256, v51⟩, ⟨S128x256, v99⟩] concatenates_S128x256_S128x256_S128x256_S128x256_S128x1024_d1
  have v101 : FVec Ideal S128x1024 .f32 := subf v100 v9
  v101

/-- The projection and its scale. -/
def proj (v101 : FVec Ideal S128x1024 .f32) (v102 : Vec Ideal S1x1024 .f32) (v104 v109 v114 v119 : Vec Ideal S1x256x256 .bf16) : FVec Ideal S128x1024 .f32 :=
  have v103 : FVec Ideal S128x256 .f32 := extractStridedSlice S128x256 ![0, 0] v101 slices_S128x1024_o0_0_S128x256
  have v105 : FVec Ideal S256x256 .bf16 := shapeCast S256x256 v104 shapeCasts_S1x256x256_S256x256
  have v106 : FVec Ideal S128x256 .bf16 := truncf .bf16 v103 bitsLt_bf16_f32
  have cst_75 : FVec Ideal S128x256 .f32 := constant S128x256 .f32 0x00000000#32
  have v107 : FVec Ideal S128x256 .f32 := matmul dot_S128x256_S256x256_S128x256_1_0_0_1_n_n none v106 v105 cst_75
  have v108 : FVec Ideal S128x256 .f32 := extractStridedSlice S128x256 ![0, 256] v101 slices_S128x1024_o0_256_S128x256
  have v110 : FVec Ideal S256x256 .bf16 := shapeCast S256x256 v109 shapeCasts_S1x256x256_S256x256
  have v111 : FVec Ideal S128x256 .bf16 := truncf .bf16 v108 bitsLt_bf16_f32
  have cst_79 : FVec Ideal S128x256 .f32 := constant S128x256 .f32 0x00000000#32
  have v112 : FVec Ideal S128x256 .f32 := matmul dot_S128x256_S256x256_S128x256_1_0_0_1_n_n none v111 v110 cst_79
  have v113 : FVec Ideal S128x256 .f32 := extractStridedSlice S128x256 ![0, 512] v101 slices_S128x1024_o0_512_S128x256
  have v115 : FVec Ideal S256x256 .bf16 := shapeCast S256x256 v114 shapeCasts_S1x256x256_S256x256
  have v116 : FVec Ideal S128x256 .bf16 := truncf .bf16 v113 bitsLt_bf16_f32
  have cst_83 : FVec Ideal S128x256 .f32 := constant S128x256 .f32 0x00000000#32
  have v117 : FVec Ideal S128x256 .f32 := matmul dot_S128x256_S256x256_S128x256_1_0_0_1_n_n none v116 v115 cst_83
  have v118 : FVec Ideal S128x256 .f32 := extractStridedSlice S128x256 ![0, 768] v101 slices_S128x1024_o0_768_S128x256
  have v120 : FVec Ideal S256x256 .bf16 := shapeCast S256x256 v119 shapeCasts_S1x256x256_S256x256
  have v121 : FVec Ideal S128x256 .bf16 := truncf .bf16 v118 bitsLt_bf16_f32
  have cst_87 : FVec Ideal S128x256 .f32 := constant S128x256 .f32 0x00000000#32
  have v122 : FVec Ideal S128x256 .f32 := matmul dot_S128x256_S256x256_S128x256_1_0_0_1_n_n none v121 v120 cst_87
  have v123 : FVec Ideal S128x1024 .f32 := concatenate S128x1024 1 [⟨S128x256, v107⟩, ⟨S128x256, v112⟩, ⟨S128x256, v117⟩, ⟨S128x256, v122⟩] concatenates_S128x256_S128x256_S128x256_S128x256_S128x1024_d1
  have v124 : FVec Ideal S128x1024 .f32 := broadcastTo S128x1024 v102 broadcasts_S1x1024_S128x1024
  have v125 : FVec Ideal S128x1024 .f32 := mulf v123 v124
  v125

theorem split (v9 : FVec Ideal S128x1024 .f32) (v15 v27 v51 v91 v93 : FVec Ideal S128x256 .f32) (v95 : Vec Ideal S1x128x256 .f32)
    (v102 : Vec Ideal S1x1024 .f32) (v104 v109 v114 v119 : Vec Ideal S1x256x256 .bf16) :
    k0_pay13 v9 v15 v27 v51 v91 v93 v95 v102 v104 v109 v114 v119 = proj (less v9 v15 v27 v51 v91 v93 v95) v102 v104 v109 v114 v119 := rfl

/-- A load of a block's row: group `g` of the row kept at `q`. -/
def Loads (v : Vec Ideal S1x128x256 .f32) (q g : ℕ) (hq : q < 15) (hg : g < 4) : Prop :=
  ∀ (r : Fin 128) (k : Fin 256), v (ix3 0 r k) = st r ⟨q, hq⟩ ⟨256 * g + k.val, by omega⟩

theorem mean0 {v14 : Vec Ideal S1x128x256 .f32} (h14 : Loads st v14 14 0 (by decide) (by decide)) (r : Fin 128) (k : Fin 256)
    (j : Fin 1024) (hj : j.val = k.val) : k0_pay5 x0 x1 v14 (ix2 r k) = mean (entry x0 x1 r) (st r) j := by
  have hw : Window.width j.val = 2 := by unfold Window.width; rw [show j.val / 256 = 0 by omega]; rfl
  have he := entry_at x0 x1 r
  have e1 : (⟨k.val, by omega⟩ : Fin 1024) = j := Fin.ext hj.symm
  have e2 : (⟨256 * 0 + k.val, by omega⟩ : Fin 1024) = j := Fin.ext (by show 256 * 0 + k.val = j.val; omega)
  unfold mean
  rw [hw, sum2, ← lit2]
  pointwise [k0_pay5]
  rw [h14, he]
  try rw [e1]
  try simp only [e2]
  rfl

theorem mean1 {v14 v13 v12 : Vec Ideal S1x128x256 .f32} (h14 : Loads st v14 14 1 (by decide) (by decide)) (h13 : Loads st v13 13 1 (by decide) (by decide)) (h12 : Loads st v12 12 1 (by decide) (by decide)) (r : Fin 128) (k : Fin 256)
    (j : Fin 1024) (hj : j.val = 256 + k.val) : k0_pay6 x0 x1 v14 v13 v12 (ix2 r k) = mean (entry x0 x1 r) (st r) j := by
  have hw : Window.width j.val = 4 := by unfold Window.width; rw [show j.val / 256 = 1 by omega]; rfl
  have he := entry_at x0 x1 r
  have e1 : (⟨256 + k.val, by omega⟩ : Fin 1024) = j := Fin.ext hj.symm
  have e2 : (⟨256 * 1 + k.val, by omega⟩ : Fin 1024) = j := Fin.ext (by show 256 * 1 + k.val = j.val; omega)
  unfold mean
  rw [hw, sum4, ← lit4]
  pointwise [k0_pay6]
  rw [h14, h13, h12, he]
  try rw [e1]
  try simp only [e2]
  rfl

theorem mean2 {v14 v13 v12 v11 v10 v9 v8 : Vec Ideal S1x128x256 .f32} (h14 : Loads st v14 14 2 (by decide) (by decide)) (h13 : Loads st v13 13 2 (by decide) (by decide)) (h12 : Loads st v12 12 2 (by decide) (by decide)) (h11 : Loads st v11 11 2 (by decide) (by decide)) (h10 : Loads st v10 10 2 (by decide) (by decide)) (h9 : Loads st v9 9 2 (by decide) (by decide)) (h8 : Loads st v8 8 2 (by decide) (by decide)) (r : Fin 128) (k : Fin 256)
    (j : Fin 1024) (hj : j.val = 512 + k.val) : k0_pay8 (k0_pay7 x0 x1 v14) v13 v12 v11 v10 v9 v8 (ix2 r k) = mean (entry x0 x1 r) (st r) j := by
  have hw : Window.width j.val = 8 := by unfold Window.width; rw [show j.val / 256 = 2 by omega]; rfl
  have he := entry_at x0 x1 r
  have e1 : (⟨512 + k.val, by omega⟩ : Fin 1024) = j := Fin.ext hj.symm
  have e2 : (⟨256 * 2 + k.val, by omega⟩ : Fin 1024) = j := Fin.ext (by show 256 * 2 + k.val = j.val; omega)
  unfold mean
  rw [hw, sum8, ← lit8]
  pointwise [k0_pay8, k0_pay7]
  rw [h14, h13, h12, h11, h10, h9, h8, he]
  try rw [e1]
  try simp only [e2]
  rfl

theorem mean3 {v14 v13 v12 v11 v10 v9 v8 v7 v6 v5 v4 v3 v2 v1 v0 : Vec Ideal S1x128x256 .f32} (h14 : Loads st v14 14 3 (by decide) (by decide)) (h13 : Loads st v13 13 3 (by decide) (by decide)) (h12 : Loads st v12 12 3 (by decide) (by decide)) (h11 : Loads st v11 11 3 (by decide) (by decide)) (h10 : Loads st v10 10 3 (by decide) (by decide)) (h9 : Loads st v9 9 3 (by decide) (by decide)) (h8 : Loads st v8 8 3 (by decide) (by decide)) (h7 : Loads st v7 7 3 (by decide) (by decide)) (h6 : Loads st v6 6 3 (by decide) (by decide)) (h5 : Loads st v5 5 3 (by decide) (by decide)) (h4 : Loads st v4 4 3 (by decide) (by decide)) (h3 : Loads st v3 3 3 (by decide) (by decide)) (h2 : Loads st v2 2 3 (by decide) (by decide)) (h1 : Loads st v1 1 3 (by decide) (by decide)) (h0 : Loads st v0 0 3 (by decide) (by decide)) (r : Fin 128) (k : Fin 256)
    (j : Fin 1024) (hj : j.val = 768 + k.val) : Ideal.div (k0_pay11 (k0_pay9 (k0_pay4 x0 x1) v14 v13 v12) (k0_pay10 v11) v10 v9 v8 v7 v6 v5 v4 v3 v2 (ix2 r k)
      + k0_pay12 v1 (ix2 r k) + v0 (ix3 0 r k)) (Ideal.ofBits .f32 0x41800000#32) = mean (entry x0 x1 r) (st r) j := by
  have hw : Window.width j.val = 16 := by unfold Window.width; rw [show j.val / 256 = 3 by omega]; rfl
  have he := entry_at x0 x1 r
  have e1 : (⟨768 + k.val, by omega⟩ : Fin 1024) = j := Fin.ext hj.symm
  have e2 : (⟨256 * 3 + k.val, by omega⟩ : Fin 1024) = j := Fin.ext (by show 256 * 3 + k.val = j.val; omega)
  unfold mean
  rw [hw, sum16, ← lit16]
  pointwise [k0_pay11, k0_pay9, k0_pay10, k0_pay12]
  rw [h14, h13, h12, h11, h10, h9, h8, h7, h6, h5, h4, h3, h2, h1, h0, he]
  try rw [e1]
  try simp only [e2]
  rfl

/-- The row that is projected. -/
theorem less_at {v15 v27 v51 v91 v93 : FVec Ideal S128x256 .f32} {v95 : Vec Ideal S1x128x256 .f32} (r : Fin 128)
    (h0 : ∀ (k : Fin 256) (j : Fin 1024), j.val = k.val → v15 (ix2 r k) = mean (entry x0 x1 r) (st r) j)
    (h1 : ∀ (k : Fin 256) (j : Fin 1024), j.val = 256 + k.val → v27 (ix2 r k) = mean (entry x0 x1 r) (st r) j)
    (h2 : ∀ (k : Fin 256) (j : Fin 1024), j.val = 512 + k.val → v51 (ix2 r k) = mean (entry x0 x1 r) (st r) j)
    (h3 : ∀ (k : Fin 256) (j : Fin 1024), j.val = 768 + k.val →
      Ideal.div (v91 (ix2 r k) + v93 (ix2 r k) + v95 (ix3 0 r k)) (Ideal.ofBits .f32 0x41800000#32) = mean (entry x0 x1 r) (st r) j)
    (j : Fin 1024) : less (k0_pay4 x0 x1) v15 v27 v51 v91 v93 v95 (ix2 r j) = pooled (entry x0 x1 r) (st r) j := by
  have he := entry_at x0 x1 r j
  pointwise [less]
  rw [he]
  refine congrArg (· - _) ?_
  by_cases c0 : j.val < 256
  · rw [dif_pos c0]
    exact h0 _ j rfl
  rw [dif_neg c0]
  by_cases c1 : j.val - 256 < 256
  · rw [dif_pos c1]
    exact h1 _ j (by show j.val = 256 + (j.val - 256); omega)
  rw [dif_neg c1]
  by_cases c2 : j.val - 256 - 256 < 256
  · rw [dif_pos c2]
    exact h2 _ j (by show j.val = 512 + (j.val - 256 - 256); omega)
  rw [dif_neg c2]
  exact h3 _ j (by show j.val = 768 + (j.val - 256 - 256 - 256); omega)

/-- The projection, group by group. -/
theorem proj_at (P : FVec Ideal S128x1024 .f32) (ps : Vec Ideal S1x1024 .f32) {w0 w1 w2 w3 : Vec Ideal S1x256x256 .bf16}
    (pw : Fin 4 → Fin 256 → Fin 256 → EReal) (h0 : ∀ c k, w0 (ix3 0 c k) = pw 0 c k) (h1 : ∀ c k, w1 (ix3 0 c k) = pw 1 c k)
    (h2 : ∀ c k, w2 (ix3 0 c k) = pw 2 c k) (h3 : ∀ c k, w3 (ix3 0 c k) = pw 3 c k) (r : Fin 128) (j : Fin 1024) :
    proj P ps w0 w1 w2 w3 (ix2 r j) = Window.mix (fun q => P (ix2 r q)) pw (fun k => ps (ix2 0 k)) j := by
  pointwise [proj]
  by_cases c0 : j.val < 256
  · rw [dif_pos c0]
    exact Window.mix_at (fun q => P (ix2 r q)) pw (fun k => ps (ix2 0 k)) j 0 ⟨j.val, c0⟩ (by show j.val = 256 * 0 + j.val; omega)
      (fun c : Fin 256 => P (ix2 r ⟨c.val, by omega⟩)) (fun c => w0 (ix3 0 c ⟨j.val, by omega⟩))
      (fun c => congrArg (fun q => P (ix2 r q)) (Fin.ext (by show c.val = 256 * 0 + c.val; omega))) fun c => h0 _ _
  rw [dif_neg c0]
  by_cases c1 : j.val - 256 < 256
  · rw [dif_pos c1]
    exact Window.mix_at (fun q => P (ix2 r q)) pw (fun k => ps (ix2 0 k)) j 1 ⟨j.val - 256, c1⟩ (by show j.val = 256 * 1 + (j.val - 256); omega)
      (fun c : Fin 256 => P (ix2 r ⟨256 + c.val, by omega⟩)) (fun c => w1 (ix3 0 c ⟨j.val - 256, by omega⟩))
      (fun c => congrArg (fun q => P (ix2 r q)) (Fin.ext (by show 256 + c.val = 256 * 1 + c.val; omega))) fun c => h1 _ _
  rw [dif_neg c1]
  by_cases c2 : j.val - 256 - 256 < 256
  · rw [dif_pos c2]
    exact Window.mix_at (fun q => P (ix2 r q)) pw (fun k => ps (ix2 0 k)) j 2 ⟨j.val - 256 - 256, c2⟩ (by show j.val = 256 * 2 + (j.val - 256 - 256); omega)
      (fun c : Fin 256 => P (ix2 r ⟨512 + c.val, by omega⟩)) (fun c => w2 (ix3 0 c ⟨j.val - 256 - 256, by omega⟩))
      (fun c => congrArg (fun q => P (ix2 r q)) (Fin.ext (by show 512 + c.val = 256 * 2 + c.val; omega))) fun c => h2 _ _
  rw [dif_neg c2]
  exact Window.mix_at (fun q => P (ix2 r q)) pw (fun k => ps (ix2 0 k)) j 3 ⟨j.val - 256 - 256 - 256, by omega⟩ (by show j.val = 256 * 3 + (j.val - 256 - 256 - 256); omega)
      (fun c : Fin 256 => P (ix2 r ⟨768 + c.val, by omega⟩)) (fun c => w3 (ix3 0 c ⟨j.val - 256 - 256 - 256, by omega⟩))
    (fun c => congrArg (fun q => P (ix2 r q)) (Fin.ext (by show 768 + c.val = 256 * 3 + c.val; omega))) fun c => h3 _ _

/-- THE MIXER, from the loads. -/
theorem mixer_at {g0v14 : Vec Ideal S1x128x256 .f32} (g0h14 : Loads st g0v14 14 0 (by decide) (by decide))
    {g1v14 : Vec Ideal S1x128x256 .f32} {g1v13 : Vec Ideal S1x128x256 .f32} {g1v12 : Vec Ideal S1x128x256 .f32} (g1h14 : Loads st g1v14 14 1 (by decide) (by decide)) (g1h13 : Loads st g1v13 13 1 (by decide) (by decide)) (g1h12 : Loads st g1v12 12 1 (by decide) (by decide))
    {g2v14 : Vec Ideal S1x128x256 .f32} {g2v13 : Vec Ideal S1x128x256 .f32} {g2v12 : Vec Ideal S1x128x256 .f32} {g2v11 : Vec Ideal S1x128x256 .f32} {g2v10 : Vec Ideal S1x128x256 .f32} {g2v9 : Vec Ideal S1x128x256 .f32} {g2v8 : Vec Ideal S1x128x256 .f32} (g2h14 : Loads st g2v14 14 2 (by decide) (by decide)) (g2h13 : Loads st g2v13 13 2 (by decide) (by decide)) (g2h12 : Loads st g2v12 12 2 (by decide) (by decide)) (g2h11 : Loads st g2v11 11 2 (by decide) (by decide)) (g2h10 : Loads st g2v10 10 2 (by decide) (by decide)) (g2h9 : Loads st g2v9 9 2 (by decide) (by decide)) (g2h8 : Loads st g2v8 8 2 (by decide) (by decide))
    {g3v14 : Vec Ideal S1x128x256 .f32} {g3v13 : Vec Ideal S1x128x256 .f32} {g3v12 : Vec Ideal S1x128x256 .f32} {g3v11 : Vec Ideal S1x128x256 .f32} {g3v10 : Vec Ideal S1x128x256 .f32} {g3v9 : Vec Ideal S1x128x256 .f32} {g3v8 : Vec Ideal S1x128x256 .f32} {g3v7 : Vec Ideal S1x128x256 .f32} {g3v6 : Vec Ideal S1x128x256 .f32} {g3v5 : Vec Ideal S1x128x256 .f32} {g3v4 : Vec Ideal S1x128x256 .f32} {g3v3 : Vec Ideal S1x128x256 .f32} {g3v2 : Vec Ideal S1x128x256 .f32} {g3v1 : Vec Ideal S1x128x256 .f32} {g3v0 : Vec Ideal S1x128x256 .f32} (g3h14 : Loads st g3v14 14 3 (by decide) (by decide)) (g3h13 : Loads st g3v13 13 3 (by decide) (by decide)) (g3h12 : Loads st g3v12 12 3 (by decide) (by decide)) (g3h11 : Loads st g3v11 11 3 (by decide) (by decide)) (g3h10 : Loads st g3v10 10 3 (by decide) (by decide)) (g3h9 : Loads st g3v9 9 3 (by decide) (by decide)) (g3h8 : Loads st g3v8 8 3 (by decide) (by decide)) (g3h7 : Loads st g3v7 7 3 (by decide) (by decide)) (g3h6 : Loads st g3v6 6 3 (by decide) (by decide)) (g3h5 : Loads st g3v5 5 3 (by decide) (by decide)) (g3h4 : Loads st g3v4 4 3 (by decide) (by decide)) (g3h3 : Loads st g3v3 3 3 (by decide) (by decide)) (g3h2 : Loads st g3v2 2 3 (by decide) (by decide)) (g3h1 : Loads st g3v1 1 3 (by decide) (by decide)) (g3h0 : Loads st g3v0 0 3 (by decide) (by decide))
    (ps : Vec Ideal S1x1024 .f32) {w0 w1 w2 w3 : Vec Ideal S1x256x256 .bf16}
    (pw : Fin 4 → Fin 256 → Fin 256 → EReal) (p0 : ∀ c k, w0 (ix3 0 c k) = pw 0 c k) (p1 : ∀ c k, w1 (ix3 0 c k) = pw 1 c k)
    (p2 : ∀ c k, w2 (ix3 0 c k) = pw 2 c k) (p3 : ∀ c k, w3 (ix3 0 c k) = pw 3 c k) (r : Fin 128) (j : Fin 1024) :
    k0_pay13 (k0_pay4 x0 x1) (k0_pay5 x0 x1 g0v14) (k0_pay6 x0 x1 g1v14 g1v13 g1v12) (k0_pay8 (k0_pay7 x0 x1 g2v14) g2v13 g2v12 g2v11 g2v10 g2v9 g2v8)
        (k0_pay11 (k0_pay9 (k0_pay4 x0 x1) g3v14 g3v13 g3v12) (k0_pay10 g3v11) g3v10 g3v9 g3v8 g3v7 g3v6 g3v5 g3v4 g3v3 g3v2) (k0_pay12 g3v1) g3v0 ps w0 w1 w2 w3 (ix2 r j)
      = Window.mix (pooled (entry x0 x1 r) (st r)) pw (fun k => ps (ix2 0 k)) j := by
  rw [split, proj_at _ ps pw p0 p1 p2 p3]
  have e := less_at x0 x1 st r (mean0 x0 x1 st g0h14 r) (mean1 x0 x1 st g1h14 g1h13 g1h12 r)
    (mean2 x0 x1 st g2h14 g2h13 g2h12 g2h11 g2h10 g2h9 g2h8 r) (mean3 x0 x1 st g3h14 g3h13 g3h12 g3h11 g3h10 g3h9 g3h8 g3h7 g3h6 g3h5 g3h4 g3h3 g3h2 g3h1 g3h0 r)
  simp only [e]

end mixer

end Cert.StepBlock

end
-- ==== Proof.StepSpec.lean ====
/- The two arrays the pooling step is to end with: entry (0, r, j) of the first is entry j of layer 1's tail of sample r, and the
   second holds each sample's fourteen newest kept rows and the row that entered. -/
module

public import proofs.«01_k».proof.Proof.StepBlock
public import proofs.«01_k».proof.Proof.Tail

@[expose] public section

set_option maxRecDepth 16384

noncomputable section

open Idealize.ShloMosaic Idealize.ShloMosaic.TcCoe Idealize.SL.Sem
open Idealize.ShloMosaic.Pipeline (Dat)

namespace Cert.StepValue

open Cert.Rows

section values

variable (y : Arr ⟨3, ![1, 128, 1024]⟩) (mod : Arr ⟨3, ![2, 136, 6144]⟩) (g b : Arr ⟨3, ![2, 2, 1024]⟩)
  (st : Arr ⟨4, ![1, 128, 15, 1024]⟩) (pw : Arr ⟨4, ![1, 4, 256, 256]⟩) (ps : Arr ⟨2, ![1, 1024]⟩)
  (wu : Arr ⟨3, ![2, 1024, 5632]⟩) (wd : Arr ⟨3, ![2, 2816, 1024]⟩)

/-- Sample `r`'s row of layer 1's modulation. -/
abbrev modOf (r : Fin 128) : Fin 6144 → EReal := fun q => mod (ix3 1 ⟨r.val, by omega⟩ q)

/-- Sample `r`'s row as it enters the mixer. -/
abbrev entry (r : Fin 128) : Row := fun j =>
  y (ix3 0 r j) * (1 + modOf mod r ⟨1024 + j.val, by omega⟩) + modOf mod r ⟨j.val, by omega⟩

/-- Sample `r`'s rows kept. -/
abbrev keptOf (r : Fin 128) : Fin 15 → Row := fun q j => st (ix4 0 r q j)

/-- The mixer's output. -/
abbrev mixed (r : Fin 128) : Row :=
  Window.mix (StepBlock.pooled (entry y mod r) (keptOf st r)) (fun g a k => pw (ix4 0 g a k)) (fun k => ps (ix2 0 k))

/-- The first result. -/
def G : Arr ⟨3, ![1, 128, 1024]⟩ := fun i =>
  last (mid (fun k => y (ix3 0 (i 1) k)) (mixed y mod st pw ps (i 1)) (modOf mod (i 1)) (lnRow g 1 0) (lnRow b 1 0))
    (modOf mod (i 1)) (lnRow g 1 1) (lnRow b 1 1) (wideAt wu 1) (narrowAt wd 1) (i 2)

/-- The second result. -/
def K : Arr ⟨3, ![15, 128, 1024]⟩ := fun i =>
  if h : (i 0).val < 14 then st (ix4 0 (i 1) ⟨(i 0).val + 1, by omega⟩ (i 2)) else entry y mod (i 1) (i 2)

end values

end Cert.StepValue

end
-- ==== Proof.StepRead.lean ====
/- The blocks the pooling step loads, read from its arguments. -/
module

public import proofs.«01_k».proof.Proof.Gen.Kernel4Ideal.Frame
public import proofs.«01_k».proof.Proof.StepSpec
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.StepValue

open Cert.Kernel4Ideal Cert.Kernel4Ideal.Gen Cert.Rows

variable (m : (ℓ : Loc nD τ sig) → Buf (Elt Ideal) ℓ)

/-- The windows' block indices at the one point of the grid. -/
theorem idx : ∀ t : Fin cfg0.N, win0_0.index t = ![0, 0, 0] ∧ win0_1.index t = ![1, 0, 0]
    ∧ win0_2.index t = ![0, 0] ∧ win0_3.index t = ![0, 0, 0] ∧ win0_4.index t = ![0, 0, 0]
    ∧ win0_5.index t = ![0, 0] ∧ win0_6.index t = ![1, 0, 0] ∧ win0_7.index t = ![1, 0, 0]
    ∧ win0_8.index t = ![0, 0, 0] ∧ win0_9.index t = ![0, 0, 0] :=
  (by decide +kernel : ∀ t : Fin grid0.N, _)

theorem read_x (c : Dev nD) (t : Fin cfg0.N) (r : Fin 128) (k : Fin 1024) :
    iblk m c 0 t (ix3 0 r k) = m ((c : Thread nD τ).loc main_arg0) (ix3 0 r k) := by
  blk_ext [iblk, V, idx t]

theorem read_mod (c : Dev nD) (t : Fin cfg0.N) (r : Fin 128) (q : Fin 6144) :
    X0_1 m c t (ix3 0 r q) = m ((c : Thread nD τ).loc main_arg1) (ix3 1 ⟨r.val, by omega⟩ q) := by
  unfold X0_1 Pipeline.Window.fill
  rw [dif_pos (moved0_1 t _)]
  blk_ext [iblk, V, idx t]

theorem read_ln (c : Dev nD) (t : Fin cfg0.N) (q : Fin 4) (k : Fin 1024) :
    iblk m c 2 t (ix2 q k) = V m c main_v14 (ix2 q k) := by
  blk_ext [iblk, (idx t).2.2.1]

theorem ln_g0 (c : Dev nD) (k : Fin 1024) : V m c main_v14 (ix2 0 k) = m ((c : Thread nD τ).loc main_arg2) (ix3 1 0 k) := by
  unfold V; after_reads_at; after_reads_at

theorem ln_b0 (c : Dev nD) (k : Fin 1024) : V m c main_v14 (ix2 1 k) = m ((c : Thread nD τ).loc main_arg3) (ix3 1 0 k) := by
  unfold V; after_reads_at; after_reads_at

theorem ln_g1 (c : Dev nD) (k : Fin 1024) : V m c main_v14 (ix2 2 k) = m ((c : Thread nD τ).loc main_arg2) (ix3 1 1 k) := by
  unfold V; after_reads_at; after_reads_at

theorem ln_b1 (c : Dev nD) (k : Fin 1024) : V m c main_v14 (ix2 3 k) = m ((c : Thread nD τ).loc main_arg3) (ix3 1 1 k) := by
  unfold V; after_reads_at; after_reads_at

theorem read_st (c : Dev nD) (t : Fin cfg0.N) (q : Fin 15) (r : Fin 128) (k : Fin 1024) :
    iblk m c 3 t (ix3 q r k) = m ((c : Thread nD τ).loc main_arg4) (ix4 0 r q k) := by
  blk_ext! [iblk, V, idx t]

theorem read_pw (c : Dev nD) (t : Fin cfg0.N) (g : Fin 4) (a : Fin 256) (k : Fin 256) :
    iblk m c 4 t (ix3 g a k) = m ((c : Thread nD τ).loc main_arg5) (ix4 0 g a k) := by
  blk_ext! [iblk, V, idx t]

theorem read_ps (c : Dev nD) (t : Fin cfg0.N) (k : Fin 1024) :
    iblk m c 5 t (ix2 0 k) = m ((c : Thread nD τ).loc main_arg6) (ix2 0 k) := by
  blk_ext [iblk, V, idx t]

theorem read_up (c : Dev nD) (t : Fin cfg0.N) (k : Fin 1024) (q : Fin 5632) :
    iblk m c 6 t (ix3 0 k q) = m ((c : Thread nD τ).loc main_arg7) (ix3 1 k q) := by
  blk_ext! [iblk, V, idx t]

theorem read_down (c : Dev nD) (t : Fin cfg0.N) (q : Fin 2816) (j : Fin 1024) :
    iblk m c 7 t (ix3 0 q j) = m ((c : Thread nD τ).loc main_arg8) (ix3 1 q j) := by
  blk_ext! [iblk, V, idx t]

/-- The row that enters, read from the blocks. -/
theorem entry_eq (c : Dev nD) (t : Fin cfg0.N) (r : Fin 128) : StepBlock.entry (iblk m c 0 t) (X0_1 m c t) r
    = entry (m ((c : Thread nD τ).loc main_arg0)) (m ((c : Thread nD τ).loc main_arg1)) r := by
  funext j
  have h : ∀ {a b d a' b' d' : EReal}, a = a' → b = b' → d = d' → a * (1 + b) + d = a' * (1 + b') + d' := by
    rintro _ _ _ _ _ _ rfl rfl rfl; rfl
  exact h (read_x m c t r j) (read_mod m c t r ⟨1024 + j.val, by omega⟩) (read_mod m c t r ⟨j.val, by omega⟩)

/-- The pieces of the two matrices. -/
theorem pieces (c : Dev nD) (t : Fin cfg0.N) : StepBlock.Pieces (wideAt (m ((c : Thread nD τ).loc main_arg7)) 1) (narrowAt (m ((c : Thread nD τ).loc main_arg8)) 1)
    (View.ld (iblk m c 6 t) (Rect.unit ![0, 0, 0] ![1, 1024, 1536] inb_S1x1024x5632_S1x1024x1536_0_0_0))
    (View.ld (iblk m c 6 t) (Rect.unit ![0, 0, 2816] ![1, 1024, 1536] inb_S1x1024x5632_S1x1024x1536_0_0_2816))
    (View.ld (iblk m c 7 t) (Rect.unit ![0, 0, 0] ![1, 1536, 1024] inb_S1x2816x1024_S1x1536x1024_0_0_0))
    (View.ld (iblk m c 6 t) (Rect.unit ![0, 0, 1536] ![1, 1024, 1280] inb_S1x1024x5632_S1x1024x1280_0_0_1536))
    (View.ld (iblk m c 6 t) (Rect.unit ![0, 0, 4352] ![1, 1024, 1280] inb_S1x1024x5632_S1x1024x1280_0_0_4352))
    (View.ld (iblk m c 7 t) (Rect.unit ![0, 1536, 0] ![1, 1280, 1024] inb_S1x2816x1024_S1x1280x1024_0_1536_0)) where
  h0 k q := by pointwise []; exact read_up m c t _ _
  h1 k q := by pointwise []; exact read_up m c t _ _
  h2 k q := by pointwise []; exact read_up m c t _ _
  h3 k q := by pointwise []; exact read_up m c t _ _
  e0 q j := by pointwise []; exact read_down m c t _ _
  e1 q j := by pointwise []; exact read_down m c t _ _

/-- A load of a kept row's column group. -/
theorem loads (c : Dev nD) (t : Fin cfg0.N) (q g : ℕ) (hq : q < 15) (hg : g < 4) (o : ℕ) (ho : o = 256 * g)
    (h : ∀ x, (![q, 0, o] : Fin 3 → ℕ) x + (![1, 128, 256] : Fin 3 → ℕ) x ≤ S15x128x1024.size x) :
    StepBlock.Loads (keptOf (m ((c : Thread nD τ).loc main_arg4))) (View.ld (iblk m c 3 t) (Rect.unit (s := S15x128x1024) ![q, 0, o] ![1, 128, 256] h)) q g hq hg := by
  subst ho
  intro r k
  refine (congrArg (iblk m c 3 t) ?_ : _ = iblk m c 3 t (ix3 ⟨q, hq⟩ r ⟨256 * g + k.val, by omega⟩)).trans (read_st m c t _ _ _)
  funext x
  match x with
  | ⟨0, _⟩ => exact Fin.ext (by show q + 1 * 0 = q; omega)
  | ⟨1, _⟩ => exact Fin.ext (by show 0 + 1 * r.val = r.val; omega)
  | ⟨2, _⟩ => exact Fin.ext (by show 256 * g + 1 * k.val = 256 * g + k.val; omega)

/-- A load of one group's projection. -/
theorem weight (c : Dev nD) (t : Fin cfg0.N) (g : ℕ) (hg : g < 4)
    (h : ∀ x, (![g, 0, 0] : Fin 3 → ℕ) x + (![1, 256, 256] : Fin 3 → ℕ) x ≤ S4x256x256.size x) (a k : Fin 256) :
    View.ld (iblk m c 4 t) (Rect.unit (s := S4x256x256) ![g, 0, 0] ![1, 256, 256] h) (ix3 0 a k)
      = m ((c : Thread nD τ).loc main_arg5) (ix4 0 ⟨g, hg⟩ a k) := by
  refine (congrArg (iblk m c 4 t) ?_ : _ = iblk m c 4 t (ix3 ⟨g, hg⟩ a k)).trans (read_pw m c t _ _ _)
  funext x
  match x with
  | ⟨0, _⟩ => exact Fin.ext (by show g + 1 * 0 = g; omega)
  | ⟨1, _⟩ => exact Fin.ext (by show 0 + 1 * a.val = a.val; omega)
  | ⟨2, _⟩ => exact Fin.ext (by show 0 + 1 * k.val = k.val; omega)

end Cert.StepValue

end
-- ==== Proof.StepPoint.lean ====
/- The pooling step's first result array after the run. -/
module

public import proofs.«01_k».proof.Proof.StepRead

@[expose] public section

set_option maxRecDepth 16384

noncomputable section

open Idealize.ShloMosaic Idealize.ShloMosaic.TcCoe Idealize.SL.Sem
open Idealize.ShloMosaic.Pipeline (Dat)

namespace Cert.StepValue

open Cert.Kernel4Ideal Cert.Kernel4Ideal.Gen Cert.Rows

variable (m : (ℓ : Loc nD τ sig) → Buf (Elt Ideal) ℓ)

/-- The arrays of the run. -/
abbrev Gm (c : Dev nD) : Arr ⟨3, ![1, 128, 1024]⟩ :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The mixer's output in the run. -/
abbrev mixedRow (c : Dev nD) (r : Fin 128) : Row := mixed (m ((c : Thread nD τ).loc main_arg0)) (m ((c : Thread nD τ).loc main_arg1)) (m ((c : Thread nD τ).loc main_arg4)) (m ((c : Thread nD τ).loc main_arg5)) (m ((c : Thread nD τ).loc main_arg6)) r

theorem tail_eq (c : Dev nD) (t : Fin cfg0.N) (r : Fin 128) (j : Fin 1024) (h : FVec Ideal S128x1024 .f32) (hh : ∀ k, h (ix2 r k) = mixedRow m c r k) :
    last (StepBlock.midRow (iblk m c 0 t) (X0_1 m c t) (iblk m c 2 t) h r) (StepBlock.modOf (X0_1 m c t) r)
        (fun k => iblk m c 2 t (ix2 2 k)) (fun k => iblk m c 2 t (ix2 3 k))
        (wideAt (m ((c : Thread nD τ).loc main_arg7)) 1) (narrowAt (m ((c : Thread nD τ).loc main_arg8)) 1) j = Gm m c (ix3 0 r j) := by
  have ex : (fun k => iblk m c 0 t (ix3 0 r k)) = fun k => m ((c : Thread nD τ).loc main_arg0) (ix3 0 r k) := funext fun k => read_x m c t r k
  have em : StepBlock.modOf (X0_1 m c t) r = modOf (m ((c : Thread nD τ).loc main_arg1)) r := funext fun q => read_mod m c t r q
  have eh : (fun k => h (ix2 r k)) = mixedRow m c r := funext hh
  have e0 : (fun k => iblk m c 2 t (ix2 0 k)) = lnRow (m ((c : Thread nD τ).loc main_arg2)) 1 0 := funext fun k => (read_ln m c t 0 k).trans (ln_g0 m c k)
  have e1 : (fun k => iblk m c 2 t (ix2 1 k)) = lnRow (m ((c : Thread nD τ).loc main_arg3)) 1 0 := funext fun k => (read_ln m c t 1 k).trans (ln_b0 m c k)
  have e2 : (fun k => iblk m c 2 t (ix2 2 k)) = lnRow (m ((c : Thread nD τ).loc main_arg2)) 1 1 := funext fun k => (read_ln m c t 2 k).trans (ln_g1 m c k)
  have e3 : (fun k => iblk m c 2 t (ix2 3 k)) = lnRow (m ((c : Thread nD τ).loc main_arg3)) 1 1 := funext fun k => (read_ln m c t 3 k).trans (ln_b1 m c k)
  have ez : StepBlock.midRow (iblk m c 0 t) (X0_1 m c t) (iblk m c 2 t) h r
      = mid (fun k => m ((c : Thread nD τ).loc main_arg0) (ix3 0 r k)) (mixedRow m c r) (modOf (m ((c : Thread nD τ).loc main_arg1)) r)
          (lnRow (m ((c : Thread nD τ).loc main_arg2)) 1 0) (lnRow (m ((c : Thread nD τ).loc main_arg3)) 1 0) :=
    congr (congr (congr (congr (congrArg mid ex) eh) em) e0) e1
  exact congrFun (congrFun (congrFun (congr (congr (congr (congrArg last ez) em) e2) e3) _) _) j

theorem mix_eq (c : Dev nD) (t : Fin cfg0.N) (r : Fin 128) (k : Fin 1024) :
    Window.mix (StepBlock.pooled (StepBlock.entry (iblk m c 0 t) (X0_1 m c t) r) (keptOf (m ((c : Thread nD τ).loc main_arg4)) r))
      (fun g a k => m ((c : Thread nD τ).loc main_arg5) (ix4 0 g a k)) (fun k => iblk m c 5 t (ix2 0 k)) k = mixedRow m c r k := by
  have e5 : (fun k => iblk m c 5 t (ix2 0 k)) = fun k => m ((c : Thread nD τ).loc main_arg6) (ix2 0 k) := funext fun k => read_ps m c t k
  have eu := congrArg (fun u => StepBlock.pooled u (keptOf (m ((c : Thread nD τ).loc main_arg4)) r)) (entry_eq m c t r)
  exact congrFun (congr (congrFun (congrArg Window.mix eu) _) e5) k

set_option maxHeartbeats 1000000 in
/-- What is stored in the first output. -/
theorem point8 (c : Dev nD) (t : Fin cfg0.N) (r : Fin 128) (j : Fin 1024) : (outsAt0 m c t).1 (ix3 0 r j) = Gm m c (ix3 0 r j) := by
  unfold outsAt0
  frame_out
  refine (StepBlock.out_apply _ _ _ _ (pieces m c t) r j).trans (tail_eq m c t r j _ fun k => ?_)
  refine (StepBlock.mixer_at _ _ (keptOf (m ((c : Thread nD τ).loc main_arg4)))
    (loads m c t 14 0 (by decide) (by decide) 0 rfl _)
    (loads m c t 14 1 (by decide) (by decide) 256 rfl _) (loads m c t 13 1 (by decide) (by decide) 256 rfl _) (loads m c t 12 1 (by decide) (by decide) 256 rfl _)
    (loads m c t 14 2 (by decide) (by decide) 512 rfl _) (loads m c t 13 2 (by decide) (by decide) 512 rfl _) (loads m c t 12 2 (by decide) (by decide) 512 rfl _) (loads m c t 11 2 (by decide) (by decide) 512 rfl _) (loads m c t 10 2 (by decide) (by decide) 512 rfl _) (loads m c t 9 2 (by decide) (by decide) 512 rfl _) (loads m c t 8 2 (by decide) (by decide) 512 rfl _)
    (loads m c t 14 3 (by decide) (by decide) 768 rfl _) (loads m c t 13 3 (by decide) (by decide) 768 rfl _) (loads m c t 12 3 (by decide) (by decide) 768 rfl _) (loads m c t 11 3 (by decide) (by decide) 768 rfl _) (loads m c t 10 3 (by decide) (by decide) 768 rfl _) (loads m c t 9 3 (by decide) (by decide) 768 rfl _) (loads m c t 8 3 (by decide) (by decide) 768 rfl _) (loads m c t 7 3 (by decide) (by decide) 768 rfl _) (loads m c t 6 3 (by decide) (by decide) 768 rfl _) (loads m c t 5 3 (by decide) (by decide) 768 rfl _) (loads m c t 4 3 (by decide) (by decide) 768 rfl _) (loads m c t 3 3 (by decide) (by decide) 768 rfl _) (loads m c t 2 3 (by decide) (by decide) 768 rfl _) (loads m c t 1 3 (by decide) (by decide) 768 rfl _) (loads m c t 0 3 (by decide) (by decide) 768 rfl _)
    _ (fun g a k => m ((c : Thread nD τ).loc main_arg5) (ix4 0 g a k)) (weight m c t 0 (by decide) _) (weight m c t 1 (by decide) _)
    (weight m c t 2 (by decide) _) (weight m c t 3 (by decide) _) r k).trans (mix_eq m c t r k)

/-- THE RESULT ARRAYS. -/
theorem final8 (c : Dev nD) : (dats m 0 c).arrAt 8 (cfgs 0).N
    = Gm m c := by
  refine (dats m 0 c).arrAt_eq_of_covers 8 _ (by decide +kernel) fun t _ y => ?_
  blk_simp
  rw [after0_8]
  idx_vars y
  obtain rfl : y0 = 0 := Subsingleton.elim _ _
  rw [point8]
  have e : ((cfg0.win 8).blk t).view.emb (ix3 0 y1 y2) = ix3 0 y1 y2 := by blk_ext [idx t]
  rw [e]

end Cert.StepValue

end
-- ==== Proof.StepKept.lean ====
/- The pooling step's second result array after the run. -/
module

public import proofs.«01_k».proof.Proof.StepRead

@[expose] public section

set_option maxRecDepth 16384

noncomputable section

open Idealize.ShloMosaic Idealize.ShloMosaic.TcCoe Idealize.SL.Sem
open Idealize.ShloMosaic.Pipeline (Dat)

namespace Cert.StepValue

open Cert.Kernel4Ideal Cert.Kernel4Ideal.Gen Cert.Rows

/-- A block stored row by row: the row stored last at a place is what it holds. -/
theorem piece (p : ℕ) (h : ∀ x, (![p, 0, 0] : Fin 3 → ℕ) x + (![1, 128, 1024] : Fin 3 → ℕ) x ≤ S15x128x1024.size x)
    (w : FVec Ideal S1x128x1024 .f32) (L : List (View.Piece (Elt Ideal) S15x128x1024 .f32)) (q : Fin 15) (r : Fin 128) (j : Fin 1024) :
    View.canon (⟨Rect.unit (s := S15x128x1024) ![p, 0, 0] ![1, 128, 1024] h, w⟩ :: L) (ix3 q r j)
      = if q.val = p then w (ix3 0 r j) else View.canon L (ix3 q r j) := by
  by_cases hq : q.val = p
  · rw [if_pos hq]
    have e : (ix3 q r j : S15x128x1024.Idx)
        = (Rect.unit (s := S15x128x1024) ![p, 0, 0] ![1, 128, 1024] h).emb (ix3 (0 : Fin 1) r j : (⟨3, ![1, 128, 1024]⟩ : Shape).Idx) := by
      funext x
      match x with
      | ⟨0, _⟩ => exact Fin.ext (by show q.val = p + 1 * 0; omega)
      | ⟨1, _⟩ => exact Fin.ext (by show r.val = 0 + 1 * r.val; omega)
      | ⟨2, _⟩ => exact Fin.ext (by show j.val = 0 + 1 * j.val; omega)
    refine (congrArg (View.canon _) e).trans ?_
    exact View.canon_cons_emb _ _ _ _
  · rw [if_neg hq, View.canon_cons_of_not_mem]
    intro hm
    obtain ⟨x, hx⟩ := (Rect.unit (s := S15x128x1024) ![p, 0, 0] ![1, 128, 1024] h).exists_idx_of_mem hm
    have h0 := congrArg (fun i => (i 0).val) hx
    have h1 : p + 1 * (x 0).val = q.val := h0
    have h2 : (x 0).val < 1 := (x 0).isLt
    omega

variable (m : (ℓ : Loc nD τ sig) → Buf (Elt Ideal) ℓ)

set_option maxHeartbeats 800000 in
/-- What is stored in the second output. -/
theorem point9 (c : Dev nD) (t : Fin cfg0.N) (q : Fin 15) (r : Fin 128) (j : Fin 1024) : (outsAt0 m c t).2 (ix3 q r j)
    = K (m ((c : Thread nD τ).loc main_arg0)) (m ((c : Thread nD τ).loc main_arg1)) (m ((c : Thread nD τ).loc main_arg4)) (ix3 q r j) := by
  unfold outsAt0
  frame_out
  simp only [piece]
  have he := (StepBlock.entry_at (iblk m c 0 t) (X0_1 m c t) r j).trans (congrFun (entry_eq m c t r) j)
  obtain ⟨q, hq⟩ := q
  have hk : ∀ h : q < 14, K (m ((c : Thread nD τ).loc main_arg0)) (m ((c : Thread nD τ).loc main_arg1)) (m ((c : Thread nD τ).loc main_arg4)) (ix3 ⟨q, hq⟩ r j)
      = iblk m c 3 t (ix3 ⟨q + 1, by omega⟩ r j) := fun h => (dif_pos h).trans (read_st m c t _ _ _).symm
  interval_cases q
  case «14» =>
    refine Eq.trans (if_pos rfl) ?_
    pointwise [k0_pay1]
    exact he
  all_goals
    rw [hk (by decide)]
    simp only [Nat.reduceEqDiff, OfNat.ofNat_ne_zero, OfNat.zero_ne_ofNat, one_ne_zero, zero_ne_one, OfNat.ofNat_ne_one, OfNat.one_ne_ofNat, if_true, if_false]
    pointwise [k0_pay25, k0_pay26, k0_pay27, k0_pay28, k0_pay29, k0_pay30, k0_pay31, k0_pay32, k0_pay33, k0_pay34, k0_pay35, k0_pay36, k0_pay37, k0_pay38]

theorem final9 (c : Dev nD) : (dats m 0 c).arrAt 9 (cfgs 0).N
    = K (m ((c : Thread nD τ).loc main_arg0)) (m ((c : Thread nD τ).loc main_arg1)) (m ((c : Thread nD τ).loc main_arg4)) := by
  refine (dats m 0 c).arrAt_eq_of_covers 9 _ (by decide +kernel) fun t _ y => ?_
  blk_simp
  rw [after0_9]
  idx_vars y
  rw [point9]
  have e : ((cfg0.win 9).blk t).view.emb (ix3 y0 y1 y2) = ix3 y0 y1 y2 := by blk_ext [idx t]
  rw [e]

end Cert.StepValue

end
-- ==== Proof.StepRef.lean ====
/- The reference of the pooling step, read at an entry: the same row enters after the rows kept, its window sums are differences
   of prefix sums over the sixteen rows, and the same tail follows. -/
module

public import proofs.«01_k».proof.Proof.Gen.Reference4Ideal.Read
public import proofs.«01_k».proof.Proof.StepSpec
public import proofs.«01_k».proof.Proof.PrefixSum

@[expose] public section

set_option maxRecDepth 16384

noncomputable section

open Idealize.ShloMosaic

namespace Cert.StepRef

open Cert.Reference4Ideal Cert.Reference4Ideal.Gen Cert.Reference4Ideal.Read Cert.Rows Cert.Window

variable (y : Arr ⟨3, ![1, 128, 1024]⟩) (mod : Arr ⟨3, ![2, 136, 6144]⟩) (g b : Arr ⟨3, ![2, 2, 1024]⟩)
  (st : Arr ⟨4, ![1, 128, 15, 1024]⟩) (pw : Arr ⟨4, ![1, 4, 256, 256]⟩) (ps : Arr ⟨2, ![1, 1024]⟩)
  (wu : Arr ⟨3, ![2, 1024, 5632]⟩) (wd : Arr ⟨3, ![2, 2816, 1024]⟩)

/-- The row that enters the mixer. -/
theorem entered (s : Fin 128) (z : Fin 1) (j : Fin 1024) : val_main_v13 (F := Ideal) y mod (ix3 s z j) = StepValue.entry y mod s j := by
  obtain rfl : z = 0 := Subsingleton.elim _ _
  pointwise [val_main_v13, val_main_v12, val_main_v11, val_main_v10, val_main_v5, val_main_v4, val_main_v3, val_main_v2,
    val_main_v1, val_main_v0, val_main_cst]

/-- The first residual. -/
theorem res (s : Fin 128) (j : Fin 1024) : val_main_v84 (F := Ideal) y mod st pw ps (ix3 s 0 j)
    = alpha * y (ix3 0 s j) + part (StepValue.modOf mod s) 2048 (by decide) j * val_main_v77 (F := Ideal) y mod st pw ps (ix3 s 0 j) := by
  pointwise [val_main_v84, val_main_v83, val_main_v82, val_main_v81, val_main_cst_9, val_main_v6, val_main_v3, val_main_v2,
    val_main_v1, val_main_v0]
  rfl

/-- The first norm of the residual's row. -/
theorem norm1 (s : Fin 128) (j : Fin 1024) : val_main_v112 (F := Ideal) y mod g b st pw ps (ix3 s 0 j)
    = norm (fun k => val_main_v84 (F := Ideal) y mod st pw ps (ix3 s 0 k)) (lnRow g 1 0) (lnRow b 1 0) j := by
  pointwise [val_main_v112, val_main_v111, val_main_v110, val_main_v109, val_main_v108, val_main_v107, val_main_v106,
    val_main_v105, val_main_v104, val_main_v103, val_main_v102, val_main_v101, val_main_v100, val_main_v99, val_main_v98,
    val_main_v97, val_main_v96, val_main_v95, val_main_v94, val_main_v93, val_main_v92, val_main_v91, val_main_v90,
    val_main_v89, val_main_v88, val_main_v87, val_main_v86, val_main_v85, val_main_cst_10, val_main_cst_11,
    val_main_cst_12, val_main_cst_13, val_main_cst_14]
  rfl

/-- The row that enters the feed-forward block. -/
theorem ent (s : Fin 128) (k : Fin 1024) : val_main_v116 (F := Ideal) y mod g b st pw ps (ix3 s 0 k)
    = enter (fun k => val_main_v112 (F := Ideal) y mod g b st pw ps (ix3 s 0 k)) (StepValue.modOf mod s) k := by
  pointwise [val_main_v116, val_main_v115, val_main_v114, val_main_v113, val_main_cst_15,
    val_main_v8, val_main_v7, val_main_v3, val_main_v2, val_main_v1]
  rfl

/-- The widened row. -/
theorem wid (s : Fin 128) (q : Fin 5632) : val_main_v123 (F := Ideal) y mod g b st pw ps wu (ix3 s 0 q)
    = widen (fun k => val_main_v116 (F := Ideal) y mod g b st pw ps (ix3 s 0 k)) (wideAt wu 1) q := by
  pointwise [val_main_v123, val_main_v120, val_main_v119]
  rfl

/-- A hidden unit. -/
theorem hid (s : Fin 128) (q : Fin 2816) : val_main_v127 (F := Ideal) y mod g b st pw ps wu (ix3 s 0 q)
    = hidden (fun k => val_main_v116 (F := Ideal) y mod g b st pw ps (ix3 s 0 k)) (wideAt wu 1) q := by
  pointwise [val_main_v127, val_main_v126, val_main_call1_v5, val_main_call1_v4, val_main_call1_v3, val_main_call1_v2,
    val_main_call1_v1, val_main_call1_v0, val_main_call1_cst, val_main_call1_cst_0, val_main_v125, val_main_v124]
  rw [wid, wid]
  rfl

/-- The second residual. -/
theorem res2 (s : Fin 128) (j : Fin 1024) : val_main_v130 (F := Ideal) y mod g b st pw ps wu wd (ix3 s 0 j)
    = alpha * val_main_v112 (F := Ideal) y mod g b st pw ps (ix3 s 0 j) + part (StepValue.modOf mod s) 5120 (by decide) j
        * ∑ q : Fin 2816, val_main_v127 (F := Ideal) y mod g b st pw ps wu (ix3 s 0 q) * narrowAt wd 1 q j := by
  pointwise [val_main_v130, val_main_v129, val_main_v128, val_main_v122, val_main_v121, val_main_v118,
    val_main_v117, val_main_cst_16, val_main_v9, val_main_v3, val_main_v2, val_main_v1]
  rfl

/-- The second norm of the second residual's row. -/
theorem norm2 (s : Fin 128) (j : Fin 1024) : val_main_v158 (F := Ideal) y mod g b st pw ps wu wd (ix3 s 0 j)
    = norm (fun k => val_main_v130 (F := Ideal) y mod g b st pw ps wu wd (ix3 s 0 k)) (lnRow g 1 1) (lnRow b 1 1) j := by
  pointwise [val_main_v158, val_main_v157, val_main_v156, val_main_v155,
    val_main_v154, val_main_v153, val_main_v152, val_main_v151, val_main_v150, val_main_v149, val_main_v148, val_main_v147,
    val_main_v146, val_main_v145, val_main_v144, val_main_v143, val_main_v142, val_main_v141, val_main_v140, val_main_v139,
    val_main_v138, val_main_v137, val_main_v136, val_main_v135, val_main_v134, val_main_v133, val_main_v132, val_main_v131,
    val_main_cst_17, val_main_cst_18, val_main_cst_19, val_main_cst_20, val_main_cst_21]
  rfl

/-- The rows kept and the row that enters. -/
theorem ext_at (s : Fin 128) (p : Fin 16) (j : Fin 1024) :
    val_main_v17 (F := Ideal) y mod st (ix3 s p j) = StepBlock.hist (StepValue.entry y mod s) (StepValue.keptOf st s) j p.val := by
  pointwise [val_main_v17, val_main_v14]
  unfold StepBlock.hist
  by_cases h : p.val < 15
  · rw [dif_pos h, dif_pos h]
  · rw [dif_neg h, dif_neg h, entered]

/-- The cumulative sum. -/
theorem cum_at (s : Fin 128) (p : Fin 16) (j : Fin 1024) :
    val_main_v19 (F := Ideal) y mod st (ix3 s p j)
      = ∑ i ∈ Finset.range (p.val + 1), StepBlock.hist (StepValue.entry y mod s) (StepValue.keptOf st s) j i := by
  unfold val_main_v19 Host.reduceWindowAdd
  refine (cumsum (A := 128) (B := 16) (C := 1024) (M := 15) rfl (val_main_v17 (F := Ideal) y mod st)
    (StepBlock.hist (StepValue.entry y mod s) (StepValue.keptOf st s) j) _ ?_ _ _ s p j fun q => ext_at y mod st s q j)
  pointwise [val_main_call0_call0_v0, val_main_call0_call0_cst]

/-- The cumulative sum after a row of zeros: the sum of what stands before row `p`. -/
theorem sum_at (s : Fin 128) (p : Fin 17) (j : Fin 1024) :
    val_main_v20 (F := Ideal) y mod st (ix3 s p j)
      = ∑ i ∈ Finset.range p.val, StepBlock.hist (StepValue.entry y mod s) (StepValue.keptOf st s) j i := by
  pointwise [val_main_v20, val_main_v18, val_main_cst_0]
  by_cases h : p.val < 1
  · rw [dif_pos h, show p.val = 0 by omega]
    rfl
  · rw [dif_neg h, cum_at, show (⟨p.val - 1, by omega⟩ : Fin 16).val + 1 = p.val by show p.val - 1 + 1 = p.val; omega]

/-- What the precondition makes finite. -/
def Good : Prop := ∀ s j p, Finite (StepBlock.hist (StepValue.entry y mod s) (StepValue.keptOf st s) j p)

theorem count2 : (FloatOps.sitofp FTy.f32 (IntOp.minsi (IntOp.addi (IntOp.addi 16384#32 (BitVec.ofNat 32 0)) 1#32) 2#32) : Ideal .f32)
    = ((((2 : ℕ) : ℤ) : ℝ) : EReal) := by
  rw [show IntOp.minsi (IntOp.addi (IntOp.addi 16384#32 (BitVec.ofNat 32 0)) 1#32) 2#32 = 2#32 by decide]; rfl
theorem count4 : (FloatOps.sitofp FTy.f32 (IntOp.minsi (IntOp.addi (IntOp.addi 16384#32 (BitVec.ofNat 32 0)) 1#32) 4#32) : Ideal .f32)
    = ((((4 : ℕ) : ℤ) : ℝ) : EReal) := by
  rw [show IntOp.minsi (IntOp.addi (IntOp.addi 16384#32 (BitVec.ofNat 32 0)) 1#32) 4#32 = 4#32 by decide]; rfl
theorem count8 : (FloatOps.sitofp FTy.f32 (IntOp.minsi (IntOp.addi (IntOp.addi 16384#32 (BitVec.ofNat 32 0)) 1#32) 8#32) : Ideal .f32)
    = ((((8 : ℕ) : ℤ) : ℝ) : EReal) := by
  rw [show IntOp.minsi (IntOp.addi (IntOp.addi 16384#32 (BitVec.ofNat 32 0)) 1#32) 8#32 = 8#32 by decide]; rfl
theorem count16 : (FloatOps.sitofp FTy.f32 (IntOp.minsi (IntOp.addi (IntOp.addi 16384#32 (BitVec.ofNat 32 0)) 1#32) 16#32) : Ideal .f32)
    = ((((16 : ℕ) : ℤ) : ℝ) : EReal) := by
  rw [show IntOp.minsi (IntOp.addi (IntOp.addi 16384#32 (BitVec.ofNat 32 0)) 1#32) 16#32 = 16#32 by decide]; rfl

/-- The means of column group 0. -/
theorem mean0 (hu : Good y mod st) (s : Fin 128) (k : Fin 256) (j : Fin 1024) (hj : j.val = k.val) :
    val_main_v35 (F := Ideal) y mod st (ix3 s 0 k) = StepBlock.mean (StepValue.entry y mod s) (StepValue.keptOf st s) j := by
  have hw : Window.width j.val = 2 := by unfold Window.width; rw [show j.val / 256 = 0 by omega]; rfl
  pointwise [val_main_v35, val_main_v34, val_main_v33, val_main_v32, val_main_v31, val_main_v30, val_main_v29, val_main_v28, val_main_v27, val_main_v26, val_main_v25,
    val_main_v21, val_main_v22, val_main_v23, val_main_v24, val_main_c, val_main_c_1, val_main_c_2]
  rw [sum_at, sum_at]
  unfold StepBlock.mean
  rw [hw, show j = ⟨k.val, by omega⟩ from Fin.ext hj]
  exact congr (congrArg Ideal.div (prefix_sub _ (hu s _) 14 2 (by decide))) count2

/-- The means of column group 1. -/
theorem mean1 (hu : Good y mod st) (s : Fin 128) (k : Fin 256) (j : Fin 1024) (hj : j.val = 256 + k.val) :
    val_main_v46 (F := Ideal) y mod st (ix3 s 0 k) = StepBlock.mean (StepValue.entry y mod s) (StepValue.keptOf st s) j := by
  have hw : Window.width j.val = 4 := by unfold Window.width; rw [show j.val / 256 = 1 by omega]; rfl
  pointwise [val_main_v46, val_main_v45, val_main_v44, val_main_v43, val_main_v42, val_main_v41, val_main_v40, val_main_v39, val_main_v38, val_main_v37, val_main_v36,
    val_main_v21, val_main_v22, val_main_v23, val_main_v24, val_main_c, val_main_c_3, val_main_c_4]
  rw [sum_at, sum_at]
  unfold StepBlock.mean
  rw [hw, show j = ⟨256 + k.val, by omega⟩ from Fin.ext hj]
  exact congr (congrArg Ideal.div (prefix_sub _ (hu s _) 12 4 (by decide))) count4

/-- The means of column group 2. -/
theorem mean2 (hu : Good y mod st) (s : Fin 128) (k : Fin 256) (j : Fin 1024) (hj : j.val = 512 + k.val) :
    val_main_v57 (F := Ideal) y mod st (ix3 s 0 k) = StepBlock.mean (StepValue.entry y mod s) (StepValue.keptOf st s) j := by
  have hw : Window.width j.val = 8 := by unfold Window.width; rw [show j.val / 256 = 2 by omega]; rfl
  pointwise [val_main_v57, val_main_v56, val_main_v55, val_main_v54, val_main_v53, val_main_v52, val_main_v51, val_main_v50, val_main_v49, val_main_v48, val_main_v47,
    val_main_v21, val_main_v22, val_main_v23, val_main_v24, val_main_c, val_main_c_5, val_main_c_6]
  rw [sum_at, sum_at]
  unfold StepBlock.mean
  rw [hw, show j = ⟨512 + k.val, by omega⟩ from Fin.ext hj]
  exact congr (congrArg Ideal.div (prefix_sub _ (hu s _) 8 8 (by decide))) count8

/-- The means of column group 3. -/
theorem mean3 (hu : Good y mod st) (s : Fin 128) (k : Fin 256) (j : Fin 1024) (hj : j.val = 768 + k.val) :
    val_main_v68 (F := Ideal) y mod st (ix3 s 0 k) = StepBlock.mean (StepValue.entry y mod s) (StepValue.keptOf st s) j := by
  have hw : Window.width j.val = 16 := by unfold Window.width; rw [show j.val / 256 = 3 by omega]; rfl
  pointwise [val_main_v68, val_main_v67, val_main_v66, val_main_v65, val_main_v64, val_main_v63, val_main_v62, val_main_v61, val_main_v60, val_main_v59, val_main_v58,
    val_main_v21, val_main_v22, val_main_v23, val_main_v24, val_main_c, val_main_c_7, val_main_c_8]
  rw [sum_at, sum_at]
  unfold StepBlock.mean
  rw [hw, show j = ⟨768 + k.val, by omega⟩ from Fin.ext hj]
  exact congr (congrArg Ideal.div (prefix_sub _ (hu s _) 0 16 (by decide))) count16

/-- The window means less the row itself. -/
theorem pooled_at (hu : Good y mod st) (s : Fin 128) (z : Fin 1) (j : Fin 1024) :
    val_main_v70 (F := Ideal) y mod st (ix3 s z j) = StepBlock.pooled (StepValue.entry y mod s) (StepValue.keptOf st s) j := by
  obtain rfl : z = 0 := Subsingleton.elim _ _
  unfold StepBlock.pooled
  pointwise [val_main_v70, val_main_v69]
  rw [entered]
  refine congrArg (· - _) ?_
  by_cases h0 : j.val < 256
  · rw [dif_pos h0]
    exact mean0 y mod st hu s _ j rfl
  rw [dif_neg h0]
  by_cases h1 : j.val - 256 < 256
  · rw [dif_pos h1]
    exact mean1 y mod st hu s _ j (by show j.val = 256 + (j.val - 256); omega)
  rw [dif_neg h1]
  by_cases h2 : j.val - 256 - 256 < 256
  · rw [dif_pos h2]
    exact mean2 y mod st hu s _ j (by show j.val = 512 + (j.val - 256 - 256); omega)
  rw [dif_neg h2]
  exact mean3 y mod st hu s _ j (by show j.val = 768 + (j.val - 256 - 256 - 256); omega)

/-- The mixer's output. -/
theorem mixed_at (hu : Good y mod st) (s : Fin 128) (j : Fin 1024) :
    val_main_v77 (F := Ideal) y mod st pw ps (ix3 s 0 j) = StepValue.mixed y mod st pw ps s j := by
  pointwise [val_main_v77, val_main_v76, val_main_v75, val_main_v74, val_main_v73, val_main_v72, val_main_v71, val_main_v16, val_main_v15]
  unfold StepValue.mixed Window.mix
  refine congrArg (· * _) (Finset.sum_congr rfl fun c _ => ?_)
  rw [pooled_at y mod st hu, mul_comm]
  exact congrArg (fun q => StepBlock.pooled (StepValue.entry y mod s) (StepValue.keptOf st s) q * _) (Fin.ext (by show j.val / 256 * 256 + c.val = 256 * (j.val / 256) + c.val; omega))

/-- The kept rows. -/
theorem kept : val_main_v160 (F := Ideal) y mod st = StepValue.K y mod st := by
  funext i
  idx_vars i
  pointwise [val_main_v160, val_main_v80, val_main_v79, val_main_v78]
  by_cases h : i0.val < 14
  · refine Eq.trans (dif_pos (by show 1 + i0.val < 15; omega)) (Eq.trans ?_ (dif_pos h).symm)
    exact congrArg (fun q => st (ix4 0 i1 q i2)) (Fin.ext (by show 1 + i0.val = i0.val + 1; omega))
  · refine Eq.trans (dif_neg (by show ¬ 1 + i0.val < 15; omega)) (Eq.trans ?_ (dif_neg h).symm)
    rw [entered]
    try rfl

/-- The layer's output. -/
theorem result (hu : Good y mod st) :
    val_main_v159 (F := Ideal) y mod g b st pw ps wu wd = StepValue.G y mod g b st pw ps wu wd := by
  funext i
  idx_vars i
  obtain rfl : i0 = 0 := Subsingleton.elim _ _
  pointwise [val_main_v159]
  rw [norm2]
  unfold StepValue.G last ffn mid
  simp only [res2, hid, ent, norm1, res, mixed_at y mod st pw ps hu]
  rfl

end Cert.StepRef

end
-- ==== Proof.StepClaim.lean ====
/- The pooling step and its reference end with equal results, where the layer's input, its mixer's modulation and the rows kept
   are finite. -/
module

public import proofs.«01_k».proof.Defs
public import proofs.«01_k».proof.Proof.Gen.Pre_finite_step
public import proofs.«01_k».proof.Proof.Gen.Reference4Ideal.Run
public import proofs.«01_k».proof.Proof.StepPoint
public import proofs.«01_k».proof.Proof.StepKept
public import proofs.«01_k».proof.Proof.StepRef
public import proofs.«01_k».proof.Proof.PoolClaim
public import Idealize.ShloMosaic.Lib.ReduceAll

@[expose] public section

set_option maxRecDepth 16384

noncomputable section

namespace Cert.StepClaim

open Idealize.ShloMosaic Idealize.SL.Sem Cert.Window

open Cert.Pre_finite_step Cert.Pre_finite_step.Facts in
/-- What the precondition says of the arrays. -/
theorem thirds [Cert.Pre_finite_step.Facts] (y : FVec Ideal S1x128x1024 .f32) (mod : FVec Ideal S2x136x6144 .f32) (g b : FVec Ideal S2x2x1024 .f32)
    (st : FVec Ideal S1x128x15x1024 .f32) (pw : FVec Ideal S1x4x256x256 .f32) (ps : FVec Ideal S1x1024 .f32) (wu : FVec Ideal S2x1024x5632 .f32)
    (wd : FVec Ideal S2x2816x1024 .f32) (h : Cert.Pre_finite_step.fn (F := Ideal) y mod g b st pw ps wu wd = fun _ => 1#1) :
    (∀ i, Finite (y i)) ∧ (∀ (s : Fin 136) (q : Fin 2048), Finite (mod (ix3 1 s ⟨q.val, by omega⟩))) ∧ ∀ i, Finite (st i) := by
  have h0 := congrFun h (Shape.Idx.first h_S_)
  unfold Cert.Pre_finite_step.fn at h0
  obtain ⟨h12, h3⟩ := PoolClaim.and_one _ _ h0
  obtain ⟨h1, h2⟩ := PoolClaim.and_one _ _ h12
  haveI : Subsingleton S_.Idx := ⟨fun a b => funext fun x => x.elim0⟩
  refine ⟨fun i => PoolClaim.finite_of_cmp _ _ _ (Host.reduce_andi_all _ _ _ _ _ h1 i), fun s q => ?_,
    fun i => PoolClaim.finite_of_cmp _ _ _ (Host.reduce_andi_all _ _ _ _ _ h3 i)⟩
  have h4 := Host.reduce_andi_all _ _ _ _ _ h2 (ix2 s q)
  have e : shapeCast S136x2048 (extractStridedSlice S1x136x2048 ![1, 0, 0] mod slices_S2x136x6144_S1x136x2048_1_0_0) shapeCasts_S1x136x2048_S136x2048 (ix2 s q)
      = mod (ix3 1 s ⟨q.val, by omega⟩) := by
    pointwise []
  rw [← e]
  exact PoolClaim.finite_of_cmp _ _ _ h4

/-- The sixteen rows are finite. -/
theorem good (y : Rows.Arr ⟨3, ![1, 128, 1024]⟩) (mod : Rows.Arr ⟨3, ![2, 136, 6144]⟩) (st : Rows.Arr ⟨4, ![1, 128, 15, 1024]⟩) (hy : ∀ i, Finite (y i))
    (hm : ∀ (s : Fin 136) (q : Fin 2048), Finite (mod (ix3 1 s ⟨q.val, by omega⟩))) (hs : ∀ i, Finite (st i)) : StepRef.Good y mod st := by
  intro s j p
  unfold StepBlock.hist
  split_ifs
  · exact hs _
  · exact ((hy _).mul (PoolClaim.finite_one.add (hm ⟨s.val, by omega⟩ ⟨1024 + j.val, by omega⟩))).add (hm ⟨s.val, by omega⟩ ⟨j.val, by omega⟩)

/-- … of the run. -/
theorem good_run (m : (ℓ : Loc Kernel4Ideal.nD Kernel4Ideal.τ Kernel4Ideal.sig) → Buf (Elt Ideal) ℓ) (c : Dev Kernel4Ideal.nD)
    (h : Cert.Pre_finite_step.fn (F := Ideal) (m (c.tc.loc Kernel4Ideal.main_arg0)) (m (c.tc.loc Kernel4Ideal.main_arg1))
      (m (c.tc.loc Kernel4Ideal.main_arg2)) (m (c.tc.loc Kernel4Ideal.main_arg3)) (m (c.tc.loc Kernel4Ideal.main_arg4))
      (m (c.tc.loc Kernel4Ideal.main_arg5)) (m (c.tc.loc Kernel4Ideal.main_arg6)) (m (c.tc.loc Kernel4Ideal.main_arg7))
      (m (c.tc.loc Kernel4Ideal.main_arg8)) = fun _ => 1#1) :
    StepRef.Good (m (c.tc.loc Kernel4Ideal.main_arg0)) (m (c.tc.loc Kernel4Ideal.main_arg1)) (m (c.tc.loc Kernel4Ideal.main_arg4)) := by
  obtain ⟨h1, h2, h3⟩ := thirds _ _ _ _ _ _ _ _ _ h
  exact good _ _ _ h1 h2 h3

set_option maxHeartbeats 1600000 in
theorem algebraic : Cert.algebraic_Kernel4Ideal_Reference4Ideal_pre_finite_step := by
  pair_intro
  · run_from Cert.Kernel4Ideal.Gen.run_main m g
  · run_from Cert.Reference4Ideal.Value.run m' g'
    · obtain ⟨h0, h1, h2, h3, h4, h5, h6, h7, h8⟩ := hagree c
      have hu := good_run m c (hpre c)
      refine Eq.trans ?_ (Cert.StepValue.final8 m c).symm
      unfold StepValue.Gm
      rw [← h0, ← h1, ← h4] at hu
      rw [← h0, ← h1, ← h2, ← h3, ← h4, ← h5, ← h6, ← h7, ← h8]
      exact (Cert.Reference4Ideal.Read.val_main_v159_eq (F := Ideal) (StableHlo.launchContents m' c)).trans
        (Cert.StepRef.result _ _ _ _ _ _ _ _ _ hu)
    · obtain ⟨h0, h1, h2, h3, h4, h5, h6, h7, h8⟩ := hagree c
      refine Eq.trans ?_ (Cert.StepValue.final9 m c).symm
      rw [← h0, ← h1, ← h4]
      exact (Cert.Reference4Ideal.Read.val_main_v160_eq (F := Ideal) (StableHlo.launchContents m' c)).trans (Cert.StepRef.kept _ _ _)

end Cert.StepClaim

end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.PostClaim
public import proofs.«01_k».proof.Proof.PoolClaim
public import proofs.«01_k».proof.Proof.StepClaim
public import Idealize.ShloMosaic.Adequacy
public import Idealize.ShloMosaic.Init

@[expose] public section

set_option maxRecDepth 16384

noncomputable section

namespace Cert.Proof

open Idealize.ShloMosaic Idealize.SL.Sem

theorem runs_Reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem runs_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem runs_Reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Pre_finite_step.Gen.facts,
    fun m ρ _ => Cert.Kernel2.Gen.frame m ρ,
    fun m ρ _ => Cert.Kernel2Ideal.Gen.frame m ρ,
    fun m ρ _ => Cert.Kernel2Ideal.Gen.frame m ρ,
    runs_Reference2Ideal,
    fun m ρ _ => runs_Reference2Ideal m ρ trivial,
    fun m ρ _ => Cert.Kernel3.Gen.frame m ρ,
    fun m ρ _ => Cert.Kernel3Ideal.Gen.frame m ρ,
    runs_Reference3Ideal,
    fun m ρ _ => Cert.Kernel4.Gen.frame m ρ,
    fun m ρ _ => Cert.Kernel4Ideal.Gen.frame m ρ,
    fun m ρ _ => Cert.Kernel4Ideal.Gen.frame m ρ,
    runs_Reference4Ideal,
    fun m ρ _ => runs_Reference4Ideal m ρ trivial,
    trivial,
    trivial,
    trivial,
    Cert.PoolClaim.algebraic,
    Cert.PostClaim.algebraic,
    Cert.StepClaim.algebraic⟩

end Cert.Proof

end
